-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_experts_exist_KernelIdeal [hPre_experts_exist_KernelIdeal : Cert.Pre_experts_exist_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_experts_exist_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_experts_exist_ReferenceIdeal [hPre_experts_exist_ReferenceIdeal : Cert.Pre_experts_exist_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_experts_exist_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_experts_exist_KernelIdeal [hKernelIdeal : Cert.KernelIdeal.Facts] [hPre_experts_exist_KernelIdeal : Cert.Pre_experts_exist_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_experts_exist_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_experts_exist_ReferenceIdeal [hReferenceIdeal : Cert.ReferenceIdeal.Facts] [hPre_experts_exist_ReferenceIdeal : Cert.Pre_experts_exist_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_experts_exist_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_experts_exist_KernelIdeal [hKernelIdeal : Cert.KernelIdeal.Facts] [hReferenceIdeal : Cert.ReferenceIdeal.Facts] [hPre_experts_exist_KernelIdeal : Cert.Pre_experts_exist_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_experts_exist_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 512, 1024]⟩ ⟨3, ![64, 512, 1024]⟩ 0 16 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v22) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_experts_exist_KernelIdeal : Cert.Pre_experts_exist_KernelIdeal.Facts) (hPre_experts_exist_ReferenceIdeal : Cert.Pre_experts_exist_ReferenceIdeal.Facts),
    quiescent_Kernel (hKernel := hKernel)
    ∧ quiescent_KernelIdeal (hKernelIdeal := hKernelIdeal)
    ∧ quiescent_KernelIdeal_pre_experts_exist_KernelIdeal (hKernelIdeal := hKernelIdeal) (hPre_experts_exist_KernelIdeal := hPre_experts_exist_KernelIdeal)
    ∧ quiescent_ReferenceIdeal (hReferenceIdeal := hReferenceIdeal)
    ∧ quiescent_ReferenceIdeal_pre_experts_exist_ReferenceIdeal (hReferenceIdeal := hReferenceIdeal) (hPre_experts_exist_ReferenceIdeal := hPre_experts_exist_ReferenceIdeal)
    ∧ preserves_Kernel_KernelIdeal
    ∧ algebraic_KernelIdeal_ReferenceIdeal_pre_experts_exist_KernelIdeal (hKernelIdeal := hKernelIdeal) (hReferenceIdeal := hReferenceIdeal) (hPre_experts_exist_KernelIdeal := hPre_experts_exist_KernelIdeal)
-- ==== Pre_experts_exist_KernelIdeal.lean ====
abbrev S1024x512 : Shape := ⟨2, ![1024, 512]⟩
abbrev S512x64 : Shape := ⟨2, ![512, 64]⟩
abbrev S1024x1 : Shape := ⟨2, ![1024, 1]⟩
abbrev S4x512x1024 : Shape := ⟨3, ![4, 512, 1024]⟩
abbrev S_ : Shape := ⟨0, ![]⟩

class Facts : Prop where
  bcast_S_S1024x1 : S_.BroadcastsInDim S1024x1 (![] : Fin 0 → Fin S1024x1.rank)
  reducesTo_S1024x1_S_d0_1 : S1024x1.ReducesTo [0, 1] S_
  h_S_ : 0 < S_.numel

variable [Facts]

def fn {F : FTy → Type} [FloatOps F] (main_arg0 : FVec F S1024x512 .bf16) (main_arg1 : FVec F S512x64 .bf16) (main_arg2 : IVec S1024x1 32) (main_arg3 : FVec F S4x512x1024 .bf16) : IVec S_ 1 :=
  let main_c : IVec S_ 32 := constantI S_ 32 0#32
  let main_v0 : IVec S1024x1 32 := broadcastInDim S1024x1 ![] bcast_S_S1024x1 main_c
  let main_v1 : IVec S1024x1 1 := cmpi .sge main_arg2 main_v0
  let main_c_0 : IVec S_ 32 := constantI S_ 32 64#32
  let main_v2 : IVec S1024x1 32 := broadcastInDim S1024x1 ![] bcast_S_S1024x1 main_c_0
  let main_v3 : IVec S1024x1 1 := cmpi .slt main_arg2 main_v2
  let main_v4 : IVec S1024x1 1 := andi main_v1 main_v3
  let main_c_1 : IVec S_ 1 := constantI S_ 1 1#1
  let main_v5 : IVec S_ 1 := (fun x v => Host.reduce IntOp.andi x v reducesTo_S1024x1_S_d0_1 h_S_) main_v4 main_c_1
  main_v5
-- ==== Pre_experts_exist_ReferenceIdeal.lean ====
abbrev S1024x512 : Shape := ⟨2, ![1024, 512]⟩
abbrev S512x64 : Shape := ⟨2, ![512, 64]⟩
abbrev S1024x1 : Shape := ⟨2, ![1024, 1]⟩
abbrev S64x512x1024 : Shape := ⟨3, ![64, 512, 1024]⟩
abbrev S_ : Shape := ⟨0, ![]⟩

class Facts : Prop where
  bcast_S_S1024x1 : S_.BroadcastsInDim S1024x1 (![] : Fin 0 → Fin S1024x1.rank)
  reducesTo_S1024x1_S_d0_1 : S1024x1.ReducesTo [0, 1] S_
  h_S_ : 0 < S_.numel

variable [Facts]

def fn {F : FTy → Type} [FloatOps F] (main_arg0 : FVec F S1024x512 .bf16) (main_arg1 : FVec F S512x64 .bf16) (main_arg2 : IVec S1024x1 32) (main_arg3 : FVec F S64x512x1024 .bf16) : IVec S_ 1 :=
  let main_c : IVec S_ 32 := constantI S_ 32 0#32
  let main_v0 : IVec S1024x1 32 := broadcastInDim S1024x1 ![] bcast_S_S1024x1 main_c
  let main_v1 : IVec S1024x1 1 := cmpi .sge main_arg2 main_v0
  let main_c_0 : IVec S_ 32 := constantI S_ 32 64#32
  let main_v2 : IVec S1024x1 32 := broadcastInDim S1024x1 ![] bcast_S_S1024x1 main_c_0
  let main_v3 : IVec S1024x1 1 := cmpi .slt main_arg2 main_v2
  let main_v4 : IVec S1024x1 1 := andi main_v1 main_v3
  let main_c_1 : IVec S_ 1 := constantI S_ 1 1#1
  let main_v5 : IVec S_ 1 := (fun x v => Host.reduce IntOp.andi x v reducesTo_S1024x1_S_d0_1 h_S_) main_v4 main_c_1
  main_v5
-- ==== Kernel.lean ====
abbrev S1024x512 : Shape := ⟨2, ![1024, 512]⟩
abbrev S512x64 : Shape := ⟨2, ![512, 64]⟩
abbrev S1024x1 : Shape := ⟨2, ![1024, 1]⟩
abbrev S4x512x1024 : Shape := ⟨3, ![4, 512, 1024]⟩
abbrev S1024x1024 : Shape := ⟨2, ![1024, 1024]⟩
abbrev S768x1024 : Shape := ⟨2, ![768, 1024]⟩
abbrev S15 : Shape := ⟨1, ![15]⟩
abbrev S_ : Shape := ⟨0, ![]⟩
abbrev S1024x64 : Shape := ⟨2, ![1024, 64]⟩
abbrev S1024 : Shape := ⟨1, ![1024]⟩
abbrev S1024x48 : Shape := ⟨2, ![1024, 48]⟩
abbrev S48x512 : Shape := ⟨2, ![48, 512]⟩
abbrev S48x1 : Shape := ⟨2, ![48, 1]⟩
abbrev S48x1024 : Shape := ⟨2, ![48, 1024]⟩
abbrev S1x512x1024 : Shape := ⟨3, ![1, 512, 1024]⟩
abbrev S512x1024 : Shape := ⟨2, ![512, 1024]⟩
abbrev S1 : Shape := ⟨1, ![1]⟩
abbrev S1024x768 : Shape := ⟨2, ![1024, 768]⟩

abbrev nBuf : Space → Nat
  | .hbm => 5
  | .vmem => 5
  | .smem => 0
  | _ => 0

abbrev bufTy : (tb : Table) → Fin (tcTables nBuf tb) → BufTy
  | .hbm, ⟨0, _⟩ => ⟨S1024x512, .bf16⟩
  | .hbm, ⟨1, _⟩ => ⟨S512x64, .bf16⟩
  | .hbm, ⟨2, _⟩ => ⟨S1024x1, .i32⟩
  | .hbm, ⟨3, _⟩ => ⟨S4x512x1024, .bf16⟩
  | .hbm, ⟨4, _⟩ => ⟨S1024x1024, .f32⟩
  | .local _ .vmem, ⟨0, _⟩ => ⟨S1024x512, .bf16⟩
  | .local _ .vmem, ⟨1, _⟩ => ⟨S1024x1, .i32⟩
  | .local _ .vmem, ⟨2, _⟩ => ⟨S4x512x1024, .bf16⟩
  | .local _ .vmem, ⟨3, _⟩ => ⟨S1024x1024, .f32⟩
  | .local _ .vmem, ⟨4, _⟩ => ⟨S768x1024, .bf16⟩
  | _, _ => ⟨S1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c48_i32_88 : BitVec 32 := 48#32
  let v165 : BitVec 32 := Scalar.muli v2 c48_i32_88
  let v166 : Index := Scalar.indexCast v165
  let c0_89 : Index := 0#32
  ![v166.toNat, 0]
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c48_i32_92 : BitVec 32 := 48#32
  let v171 : BitVec 32 := Scalar.muli v2 c48_i32_92
  let c0_i32_99 : BitVec 32 := 0#32
  ![v171.toNat, 0]
def k0_dev16 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_93 : BitVec 32 := 1#32
  let v172 : BitVec 32 := Scalar.addi v2 c1_i32_93
  let c16_i32_94 : BitVec 32 := 16#32
  let v173 : BitVec 32 := Scalar.remsi v172 c16_i32_94
  let c1_i32_97 : BitVec 32 := 1#32
  let v174 : BitVec 32 := Scalar.muli v173 c1_i32_97
  let v175 : BitVec 32 := Scalar.addi c0_i32_98 v174
  v175.toNat
def k0_dev17 (d0 : Dev nD) : Nat :=
  let c0_i32_108 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_103 : BitVec 32 := 2#32
  let v184 : BitVec 32 := Scalar.addi v2 c2_i32_103
  let c16_i32_104 : BitVec 32 := 16#32
  let v185 : BitVec 32 := Scalar.remsi v184 c16_i32_104
  let c1_i32_107 : BitVec 32 := 1#32
  let v186 : BitVec 32 := Scalar.muli v185 c1_i32_107
  let v187 : BitVec 32 := Scalar.addi c0_i32_108 v186
  v187.toNat
def k0_dev18 (d0 : Dev nD) : Nat :=
  let c0_i32_118 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_113 : BitVec 32 := 3#32
  let v196 : BitVec 32 := Scalar.addi v2 c3_i32_113
  let c16_i32_114 : BitVec 32 := 16#32
  let v197 : BitVec 32 := Scalar.remsi v196 c16_i32_114
  let c1_i32_117 : BitVec 32 := 1#32
  let v198 : BitVec 32 := Scalar.muli v197 c1_i32_117
  let v199 : BitVec 32 := Scalar.addi c0_i32_118 v198
  v199.toNat
def k0_dev19 (d0 : Dev nD) : Nat :=
  let c0_i32_128 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_123 : BitVec 32 := 4#32
  let v208 : BitVec 32 := Scalar.addi v2 c4_i32_123
  let c16_i32_124 : BitVec 32 := 16#32
  let v209 : BitVec 32 := Scalar.remsi v208 c16_i32_124
  let c1_i32_127 : BitVec 32 := 1#32
  let v210 : BitVec 32 := Scalar.muli v209 c1_i32_127
  let v211 : BitVec 32 := Scalar.addi c0_i32_128 v210
  v211.toNat
def k0_dev20 (d0 : Dev nD) : Nat :=
  let c0_i32_138 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_133 : BitVec 32 := 5#32
  let v220 : BitVec 32 := Scalar.addi v2 c5_i32_133
  let c16_i32_134 : BitVec 32 := 16#32
  let v221 : BitVec 32 := Scalar.remsi v220 c16_i32_134
  let c1_i32_137 : BitVec 32 := 1#32
  let v222 : BitVec 32 := Scalar.muli v221 c1_i32_137
  let v223 : BitVec 32 := Scalar.addi c0_i32_138 v222
  v223.toNat
def k0_dev21 (d0 : Dev nD) : Nat :=
  let c0_i32_148 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_143 : BitVec 32 := 6#32
  let v232 : BitVec 32 := Scalar.addi v2 c6_i32_143
  let c16_i32_144 : BitVec 32 := 16#32
  let v233 : BitVec 32 := Scalar.remsi v232 c16_i32_144
  let c1_i32_147 : BitVec 32 := 1#32
  let v234 : BitVec 32 := Scalar.muli v233 c1_i32_147
  let v235 : BitVec 32 := Scalar.addi c0_i32_148 v234
  v235.toNat
def k0_dev22 (d0 : Dev nD) : Nat :=
  let c0_i32_158 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_153 : BitVec 32 := 7#32
  let v244 : BitVec 32 := Scalar.addi v2 c7_i32_153
  let c16_i32_154 : BitVec 32 := 16#32
  let v245 : BitVec 32 := Scalar.remsi v244 c16_i32_154
  let c1_i32_157 : BitVec 32 := 1#32
  let v246 : BitVec 32 := Scalar.muli v245 c1_i32_157
  let v247 : BitVec 32 := Scalar.addi c0_i32_158 v246
  v247.toNat
def k0_dev23 (d0 : Dev nD) : Nat :=
  let c0_i32_168 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_163 : BitVec 32 := 8#32
  let v256 : BitVec 32 := Scalar.addi v2 c8_i32_163
  let c16_i32_164 : BitVec 32 := 16#32
  let v257 : BitVec 32 := Scalar.remsi v256 c16_i32_164
  let c1_i32_167 : BitVec 32 := 1#32
  let v258 : BitVec 32 := Scalar.muli v257 c1_i32_167
  let v259 : BitVec 32 := Scalar.addi c0_i32_168 v258
  v259.toNat
def k0_dev24 (d0 : Dev nD) : Nat :=
  let c0_i32_178 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_173 : BitVec 32 := 9#32
  let v268 : BitVec 32 := Scalar.addi v2 c9_i32_173
  let c16_i32_174 : BitVec 32 := 16#32
  let v269 : BitVec 32 := Scalar.remsi v268 c16_i32_174
  let c1_i32_177 : BitVec 32 := 1#32
  let v270 : BitVec 32 := Scalar.muli v269 c1_i32_177
  let v271 : BitVec 32 := Scalar.addi c0_i32_178 v270
  v271.toNat
def k0_dev25 (d0 : Dev nD) : Nat :=
  let c0_i32_188 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_183 : BitVec 32 := 10#32
  let v280 : BitVec 32 := Scalar.addi v2 c10_i32_183
  let c16_i32_184 : BitVec 32 := 16#32
  let v281 : BitVec 32 := Scalar.remsi v280 c16_i32_184
  let c1_i32_187 : BitVec 32 := 1#32
  let v282 : BitVec 32 := Scalar.muli v281 c1_i32_187
  let v283 : BitVec 32 := Scalar.addi c0_i32_188 v282
  v283.toNat
def k0_dev26 (d0 : Dev nD) : Nat :=
  let c0_i32_198 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_193 : BitVec 32 := 11#32
  let v292 : BitVec 32 := Scalar.addi v2 c11_i32_193
  let c16_i32_194 : BitVec 32 := 16#32
  let v293 : BitVec 32 := Scalar.remsi v292 c16_i32_194
  let c1_i32_197 : BitVec 32 := 1#32
  let v294 : BitVec 32 := Scalar.muli v293 c1_i32_197
  let v295 : BitVec 32 := Scalar.addi c0_i32_198 v294
  v295.toNat
def k0_dev27 (d0 : Dev nD) : Nat :=
  let c0_i32_208 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_203 : BitVec 32 := 12#32
  let v304 : BitVec 32 := Scalar.addi v2 c12_i32_203
  let c16_i32_204 : BitVec 32 := 16#32
  let v305 : BitVec 32 := Scalar.remsi v304 c16_i32_204
  let c1_i32_207 : BitVec 32 := 1#32
  let v306 : BitVec 32 := Scalar.muli v305 c1_i32_207
  let v307 : BitVec 32 := Scalar.addi c0_i32_208 v306
  v307.toNat
def k0_dev28 (d0 : Dev nD) : Nat :=
  let c0_i32_218 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_213 : BitVec 32 := 13#32
  let v316 : BitVec 32 := Scalar.addi v2 c13_i32_213
  let c16_i32_214 : BitVec 32 := 16#32
  let v317 : BitVec 32 := Scalar.remsi v316 c16_i32_214
  let c1_i32_217 : BitVec 32 := 1#32
  let v318 : BitVec 32 := Scalar.muli v317 c1_i32_217
  let v319 : BitVec 32 := Scalar.addi c0_i32_218 v318
  v319.toNat
def k0_dev29 (d0 : Dev nD) : Nat :=
  let c0_i32_228 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_223 : BitVec 32 := 14#32
  let v328 : BitVec 32 := Scalar.addi v2 c14_i32_223
  let c16_i32_224 : BitVec 32 := 16#32
  let v329 : BitVec 32 := Scalar.remsi v328 c16_i32_224
  let c1_i32_227 : BitVec 32 := 1#32
  let v330 : BitVec 32 := Scalar.muli v329 c1_i32_227
  let v331 : BitVec 32 := Scalar.addi c0_i32_228 v330
  v331.toNat
def k0_dev30 (d0 : Dev nD) : Nat :=
  let c0_i32_238 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_233 : BitVec 32 := 15#32
  let v340 : BitVec 32 := Scalar.addi v2 c15_i32_233
  let c16_i32_234 : BitVec 32 := 16#32
  let v341 : BitVec 32 := Scalar.remsi v340 c16_i32_234
  let c1_i32_237 : BitVec 32 := 1#32
  let v342 : BitVec 32 := Scalar.muli v341 c1_i32_237
  let v343 : BitVec 32 := Scalar.addi c0_i32_238 v342
  v343.toNat
def k0_off3 (d0 : Dev nD) (c1_i32_241 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v358 : BitVec 32 := Scalar.subi v2 c1_i32_241
  let c16_i32_242 : BitVec 32 := 16#32
  let v359 : BitVec 32 := Scalar.addi v358 c16_i32_242
  let c16_i32_243 : BitVec 32 := 16#32
  let v360 : BitVec 32 := Scalar.remsi v359 c16_i32_243
  let c48_i32_245 : BitVec 32 := 48#32
  let v362 : BitVec 32 := Scalar.muli v360 c48_i32_245
  let c0_i32_250 : BitVec 32 := 0#32
  ![v362.toNat, 0]
abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1024x512 : Shape := ⟨2, ![1024, 512]⟩
abbrev S512x64 : Shape := ⟨2, ![512, 64]⟩
abbrev S1024x1 : Shape := ⟨2, ![1024, 1]⟩
abbrev S64x512x1024 : Shape := ⟨3, ![64, 512, 1024]⟩
abbrev S1024 : Shape := ⟨1, ![1024]⟩
abbrev S1x1024 : Shape := ⟨2, ![1, 1024]⟩
abbrev S1024x1024 : Shape := ⟨2, ![1024, 1024]⟩
abbrev S_ : Shape := ⟨0, ![]⟩
abbrev S1024x512x1024 : Shape := ⟨3, ![1024, 512, 1024]⟩

abbrev nBuf : Space → Nat
  | .hbm => 34
  | .vmem => 0
  | .smem => 0
  | _ => 0

abbrev bufTy : (tb : Table) → Fin (tcTables nBuf tb) → BufTy
  | .hbm, ⟨0, _⟩ => ⟨S1024x512, .bf16⟩
  | .hbm, ⟨1, _⟩ => ⟨S512x64, .bf16⟩
  | .hbm, ⟨2, _⟩ => ⟨S1024x1, .i32⟩
  | .hbm, ⟨3, _⟩ => ⟨S64x512x1024, .bf16⟩
  | .hbm, ⟨4, _⟩ => ⟨S1024, .i32⟩
  | .hbm, ⟨5, _⟩ => ⟨S1024, .i32⟩
  | .hbm, ⟨6, _⟩ => ⟨S1x1024, .i32⟩
  | .hbm, ⟨7, _⟩ => ⟨S1024x1, .i32⟩
  | .hbm, ⟨8, _⟩ => ⟨S1024x1024, .i32⟩
  | .hbm, ⟨9, _⟩ => ⟨S1024x1024, .i32⟩
  | .hbm, ⟨10, _⟩ => ⟨S1024x1024, .i1⟩
  | .hbm, ⟨11, _⟩ => ⟨S1x1024, .i32⟩
  | .hbm, ⟨12, _⟩ => ⟨S1024x1, .i32⟩
  | .hbm, ⟨13, _⟩ => ⟨S1024x1024, .i32⟩
  | .hbm, ⟨14, _⟩ => ⟨S1024x1024, .i32⟩
  | .hbm, ⟨15, _⟩ => ⟨S1024x1024, .i1⟩
  | .hbm, ⟨16, _⟩ => ⟨S1024x1024, .i1⟩
  | .hbm, ⟨17, _⟩ => ⟨S1024x1024, .i32⟩
  | .hbm, ⟨18, _⟩ => ⟨S_, .i32⟩
  | .hbm, ⟨19, _⟩ => ⟨S1024, .i32⟩
  | .hbm, ⟨20, _⟩ => ⟨S64x512x1024, .f32⟩
  | .hbm, ⟨21, _⟩ => ⟨S1024x1, .i32⟩
  | .hbm, ⟨22, _⟩ => ⟨S1024x512x1024, .f32⟩
  | .hbm, ⟨23, _⟩ => ⟨S1024x512, .f32⟩
  | .hbm, ⟨24, _⟩ => ⟨S1024x1024, .f32⟩
  | .hbm, ⟨25, _⟩ => ⟨S_, .i32⟩
  | .hbm, ⟨26, _⟩ => ⟨S1024, .i32⟩
  | .hbm, ⟨27, _⟩ => ⟨S1024, .i1⟩
  | .hbm, ⟨28, _⟩ => ⟨S1024x1, .i1⟩
  | .hbm, ⟨29, _⟩ => ⟨S_, .f32⟩
  | .hbm, ⟨30, _⟩ => ⟨S_, .f32⟩
  | .hbm, ⟨31, _⟩ => ⟨S1024x1024, .i1⟩
  | .hbm, ⟨32, _⟩ => ⟨S1024x1024, .f32⟩
  | .hbm, ⟨33, _⟩ => ⟨S1024x1024, .f32⟩
  | _, _ => ⟨S1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c_0 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v22 : Ref sig .tc := ⟨.hbm, 33, rfl⟩

abbrev nD : Nat := 1
abbrev τ : Topo := Topo.v7x

variable {F : FTy → Type} [FloatOps F]
-- ==== Proof.RunKernelIdeal.Sched.lean ====
/-
# The all-gather's protocol

Sixteen devices. Device `c` owns rows `48 c … 48 c + 47` of the gathered array: it computes them and sends them to the
fifteen others; it receives the others' rows on fifteen receive semaphores. Before any transfer each device tells the
fifteen others through the barrier semaphore that its gather buffer may be written.

* the barrier cell of a device has fifteen duties of one unit, one per peer; the peer's duty hands over the peer's
  rows that this device is about to write;
* receive cell `j` has one duty, paid by the transfer of the device `j + 1` places before: those rows at their contents;
* send cell `j` has one duty, paid by the device's own `j`-th transfer: the share of its own rows lent to that transfer.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.ValueKit.Geometry
public import Idealize.ShloMosaic.Lib.Transfers
public import Idealize.ShloMosaic.Lib.Ring
public import Idealize.ShloMosaic.Lib.Tactic

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the exchange's (duties named by `Fin 15`) -/

abbrev UB : Type := URounds (GSem nD τ sig) (Fin 15)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every semaphore counter zero, any generator registers. -/
def s₀ : MemSt nD τ sig (Elt F) := ⟨m, fun _ => 0, ρ⟩

/-! ## The peers -/

set_option backward.proofsInPublic true in
/-- The device `j + 1` places after `c`. -/
def nxt (c : Dev nD) (j : Fin 15) : Dev nD := ⟨(c.val + (j.val + 1)) % 16, Nat.mod_lt _ (by decide)⟩
set_option backward.proofsInPublic true in
/-- The device `j + 1` places before `c`. -/
def prv (c : Dev nD) (j : Fin 15) : Dev nD := ⟨(c.val + (15 - j.val)) % 16, Nat.mod_lt _ (by decide)⟩

theorem prv_nxt (c : Dev nD) (j : Fin 15) : prv (nxt c j) j = c := by
  have h := c.isLt; have hj := j.isLt
  apply Fin.ext; simp only [prv, nxt]; simp only [nD] at h; omega
theorem nxt_prv (c : Dev nD) (j : Fin 15) : nxt (prv c j) j = c := by
  have h := c.isLt; have hj := j.isLt
  apply Fin.ext; simp only [prv, nxt]; simp only [nD] at h; omega
theorem nxt_rev (c : Dev nD) (j : Fin 15) : nxt (nxt c j) j.rev = c := by
  have h := c.isLt; have hj := j.isLt
  apply Fin.ext; simp only [nxt, Fin.val_rev]; simp only [nD] at h; omega
theorem nxt_ne (c : Dev nD) (j : Fin 15) : nxt c j ≠ c := by
  have h := c.isLt; have hj := j.isLt
  intro he; have := congrArg Fin.val he; simp only [nxt] at this; simp only [nD] at h; omega
theorem prv_ne (c : Dev nD) (j : Fin 15) : prv c j ≠ c := by
  have h := c.isLt; have hj := j.isLt
  intro he; have := congrArg Fin.val he; simp only [prv] at this; simp only [nD] at h; omega
theorem nxt_inj (c : Dev nD) : Function.Injective (nxt c) := by
  intro i j he
  have h := c.isLt; have hi := i.isLt; have hj := j.isLt
  have := congrArg Fin.val he; simp only [nxt] at this; simp only [nD] at h
  apply Fin.ext; omega
theorem prv_inj (c : Dev nD) : Function.Injective (prv c) := by
  intro i j he
  have h := c.isLt; have hi := i.isLt; have hj := j.isLt
  have := congrArg Fin.val he; simp only [prv] at this; simp only [nD] at h
  apply Fin.ext; omega
theorem nxt_surj (c d : Dev nD) (h : d ≠ c) : ∃ j, nxt c j = d := by
  have hc := c.isLt; have hd := d.isLt; simp only [nD] at hc hd
  have hne : d.val ≠ c.val := fun e => h (Fin.ext e)
  refine ⟨⟨(d.val + 15 - c.val) % 16, ?_⟩, ?_⟩
  · omega
  · apply Fin.ext; simp only [nxt]; omega
theorem prv_surj (c d : Dev nD) (h : d ≠ c) : ∃ j, prv c j = d := by
  obtain ⟨j, hj⟩ := nxt_surj d c (fun e => h e.symm)
  exact ⟨j, by rw [← hj, prv_nxt]⟩

/-- Moving every device `j + 1` places on, as a permutation. -/
def turn (j : Fin 15) : Dev nD ≃ Dev nD := ⟨fun c => nxt c j, fun c => prv c j, fun c => prv_nxt c j, fun c => nxt_prv c j⟩

/-! ## Counting through the fifteen peers -/

/-- The peers from number `n` on; -/
def upFrom (n : ℕ) : Finset (Fin 15) := Finset.univ.filter (n ≤ ·.val)
/-- the peers before number `n`. -/
def below (n : ℕ) : Finset (Fin 15) := Finset.univ.filter (·.val < n)

theorem upFrom_zero : upFrom 0 = Finset.univ := by decide
theorem upFrom_end : upFrom 15 = ∅ := by decide
theorem below_zero : below 0 = ∅ := by decide
theorem below_end : below 15 = Finset.univ := by decide
theorem upFrom_step (j : Fin 15) : upFrom j.val = insert j (upFrom (j.val + 1)) := by
  ext i; simp only [upFrom, Finset.mem_filter, Finset.mem_univ, true_and, Finset.mem_insert, Fin.ext_iff]; omega
theorem notMem_upFrom (j : Fin 15) : j ∉ upFrom (j.val + 1) := by
  simp only [upFrom, Finset.mem_filter, Finset.mem_univ, true_and]; omega
theorem below_step (j : Fin 15) : below (j.val + 1) = insert j (below j.val) := by
  ext i; simp only [below, Finset.mem_filter, Finset.mem_univ, true_and, Finset.mem_insert, Fin.ext_iff]; omega
theorem notMem_below (j : Fin 15) : j ∉ below j.val := by
  simp only [below, Finset.mem_filter, Finset.mem_univ, true_and]; omega

omit [FloatOps F] in
theorem bigSep_upFrom (j : Fin 15) (Φ : Fin 15 → sProp 𝕄) :
    bigSep (upFrom j.val) Φ = iprop(Φ j ∗ bigSep (upFrom (j.val + 1)) Φ) := by
  rw [upFrom_step j, bigSep_insert (notMem_upFrom j)]; rfl
omit [FloatOps F] in
theorem bigSep_below (j : Fin 15) (Φ : Fin 15 → sProp 𝕄) :
    bigSep (below (j.val + 1)) Φ = iprop(Φ j ∗ bigSep (below j.val) Φ) := by
  rw [below_step j, bigSep_insert (notMem_below j)]; rfl

/-! ## The memrefs and cells -/

abbrev xM : Memref sig .tc .vmem S1024x512 .bf16 := Memref.whole cc0_stg0_0
abbrev eM : Memref sig .tc .vmem S1024x1 .i32 := Memref.whole cc0_stg1_0
abbrev wM : Memref sig .tc .vmem S4x512x1024 .bf16 := Memref.whole cc0_stg2_0
abbrev oM : Memref sig .tc .vmem S1024x1024 .f32 := Memref.whole cc0_stg3_0
abbrev gM : Memref sig .tc .vmem S768x1024 .bf16 := Memref.whole cc0_scratch0

/-- The rows of device `d` in the gather buffer. -/
abbrev bM (d : Dev nD) : Memref sig .tc .vmem S48x1024 .bf16 :=
  gM.slice (Rect.unit (s := S768x1024) (k0_off2 d) S48x1024.size (k0_off2_inb d)) (fun _ => rfl)

theorem inbS (j : Fin 15) : ∀ a, (![j.val] : Fin 1 → Nat) a + S1.size a ≤ S15.size a := by revert j; decide

/-- The barrier semaphore; the send semaphore of transfer `j`; the receive semaphore `j`. -/
abbrev barS : Sem sig := (SemArray.scalar (sig.barrier 0 rfl) : Sems sig S_).sem
abbrev sendS (j : Fin 15) : DmaSem sig :=
  ((cc0_scratch1.slice (Rect.unit (s := S15) ![j.val] S1.size (inbS j)) : DmaSems sig S1).squeeze S_ squeezes_S1_S_ : DmaSems sig S_).sem
abbrev recvS (j : Fin 15) : DmaSem sig :=
  ((cc0_scratch2.slice (Rect.unit (s := S15) ![j.val] S1.size (inbS j)) : DmaSems sig S1).squeeze S_ squeezes_S1_S_ : DmaSems sig S_).sem

abbrev barCell (c : Dev nD) : GSem nD τ sig := ((c : Thread nD τ), .reg barS)
abbrev sendCell (c : Dev nD) (j : Fin 15) : GSem nD τ sig := ((c : Thread nD τ), .dma (sendS j))
abbrev recvCell (c : Dev nD) (j : Fin 15) : GSem nD τ sig := ((c : Thread nD τ), .dma (recvS j))

theorem sendS_val (j : Fin 15) : (sendS j).val = 4 + j.val := by revert j; decide
theorem recvS_val (j : Fin 15) : (recvS j).val = 19 + j.val := by revert j; decide

end Cert.KernelIdeal.Run

end
-- ==== Proof.RunKernelIdeal.Proto.lean ====
/-
# The contents and the schedule of the all-gather

What every device computes, as functions of the memory at launch; the gathered array; the gather buffer cut into the
sixteen devices' rows; the duties, amounts and payloads of the three kinds of cell; what each device owes at launch.
-/
module

public import proofs.«01_k».proof.Proof.RunKernelIdeal.Sched

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Contents -/

/-- The staged tokens, expert numbers and experts' weights of device `c`. -/
def xstg (c : Dev nD) : (cc0_stg0_0 : Ref sig .tc).ty.Contents (Elt F) :=
  (win0_0.blk (0 : Fin 1)).view.read (Elt F) ((s₀ m ρ).mem ((c : Thread nD τ).loc main_arg0))
def estg (c : Dev nD) : (cc0_stg1_0 : Ref sig .tc).ty.Contents (Elt F) :=
  (win0_1.blk (0 : Fin 1)).view.read (Elt F) ((s₀ m ρ).mem ((c : Thread nD τ).loc main_arg2))
def wstg (c : Dev nD) : (cc0_stg2_0 : Ref sig .tc).ty.Contents (Elt F) :=
  (win0_2.blk (0 : Fin 1)).view.read (Elt F) ((s₀ m ρ).mem ((c : Thread nD τ).loc main_arg3))

/-- Expert `k`'s weights as the body loads them from the staged four. -/
abbrev wRect (k : Fin 4) : Rect S4x512x1024 :=
  Rect.unit (s := S4x512x1024) ![k.val, 0, 0] S1x512x1024.size (by revert k; decide)
def wload (c : Dev nD) (k : Fin 4) : Vec F S1x512x1024 .bf16 :=
  (wM : Memref sig .tc .vmem S4x512x1024 .bf16).view.readAt (Elt F) (wRect k).toLoadRect (wstg m ρ c)

/-- Device `c`'s position on the mesh as the body computes it. -/
abbrev myw (c : Dev nD) : BitVec 32 := Scalar.remsi (Scalar.divsi (Dev.word c) 1#32) 16#32

/-- The rows device `c` computes: the tokens sent to its four experts, multiplied by their weights. -/
def blockOf (c : Dev nD) : FVec F S48x1024 .bf16 :=
  k0_pay10 (k0_pay9
    (k0_pay6 (myw c) (k0_pay1 (estg m ρ c)) (k0_pay2 (estg m ρ c)) (xstg m ρ c))
    (iota .tc S48x1 32 [0] iota_S48x1_d0_w32)
    (k0_pay7 (myw c) (k0_pay1 (estg m ρ c)) (k0_pay2 (estg m ρ c)) (xstg m ρ c) (wload m ρ c 0))
    k0_pay8 (wload m ρ c 1) (wload m ρ c 2) (wload m ρ c 3))

set_option backward.proofsInPublic true in
/-- The device that owns row `i 0` of the gathered array, -/
def ownerOf (i : S768x1024.Idx) : Dev nD :=
  ⟨(i 0).val / 48, by have h : (i 0).val < 768 := (i 0).isLt; show _ < 16; omega⟩
set_option backward.proofsInPublic true in
/-- and where the row lies among that device's rows. -/
def locOf (i : S768x1024.Idx) : S48x1024.Idx := fun a => match a with
  | ⟨0, _⟩ => ⟨(i 0).val % 48, Nat.mod_lt _ (by decide)⟩
  | ⟨1, _⟩ => i 1

/-- The gathered array: every device's rows. -/
def gath : (cc0_scratch0 : Ref sig .tc).ty.Contents (Elt F) := fun i : S768x1024.Idx => blockOf m ρ (ownerOf i) (locOf i)

/-- The kernel's result on device `c`. -/
def outAt (c : Dev nD) : (cc0_stg3_0 : Ref sig .tc).ty.Contents (Elt F) :=
  k0_pay12 (k0_pay11 (F := F) (k0_pay4 (k0_pay2 (estg m ρ c))) (k0_pay5 (k0_pay1 (estg m ρ c)) (k0_pay2 (estg m ρ c)))) (gath m ρ)

/-! ## The gather buffer cut into the devices' rows -/

/-- The elements of device `d`'s rows. -/
def rowsOf (d : Dev nD) : Finset ((cc0_scratch0 : Ref sig .tc).ty.Idx) := (bM d).view.set

theorem emb_row (d : Dev nD) (x : S48x1024.Idx) : (((bM d).view.emb x : S768x1024.Idx) 0).val = 48 * d.val + (x 0).val := by
  have h := ValueKit.view_emb_slice_whole_unit_val cc0_scratch0 (k0_off2 d) S48x1024.size (k0_off2_inb d) x 0
  have e : k0_off2 d 0 = 48 * d.val := by rw [k0_off2_eq]; rfl
  exact h.trans (congrArg (· + (x 0).val) e)
theorem emb_col (d : Dev nD) (x : S48x1024.Idx) : (((bM d).view.emb x : S768x1024.Idx) 1).val = (x 1).val := by
  have h := ValueKit.view_emb_slice_whole_unit_val cc0_scratch0 (k0_off2 d) S48x1024.size (k0_off2_inb d) x 1
  have e : k0_off2 d 1 = 0 := by rw [k0_off2_eq]; rfl
  exact h.trans ((congrArg (· + (x 1).val) e).trans (Nat.zero_add _))

theorem owner_emb (d : Dev nD) (x : S48x1024.Idx) : ownerOf ((bM d).view.emb x) = d := by
  have hx : (x 0).val < 48 := (x 0).isLt
  apply Fin.ext; show (((bM d).view.emb x : S768x1024.Idx) 0).val / 48 = d.val
  rw [emb_row]; omega
theorem loc_emb (d : Dev nD) (x : S48x1024.Idx) : locOf ((bM d).view.emb x) = x := by
  have hx : (x 0).val < 48 := (x 0).isLt
  funext a; apply Fin.ext
  match a with
  | ⟨0, _⟩ => show (((bM d).view.emb x : S768x1024.Idx) 0).val % 48 = (x 0).val; rw [emb_row]; omega
  | ⟨1, _⟩ => exact emb_col d x

theorem mem_rowsOf (d : Dev nD) (i : S768x1024.Idx) : i ∈ rowsOf d ↔ ownerOf i = d := by
  unfold rowsOf
  constructor
  · intro h
    obtain ⟨x, -, rfl⟩ := Finset.mem_map.mp h
    exact owner_emb d x
  · intro h
    subst h
    have : (bM (ownerOf i)).view.emb (locOf i) = i := by
      funext a; apply Fin.ext
      match a with
      | ⟨0, _⟩ =>
        refine (emb_row _ _).trans ?_
        show 48 * ((i 0).val / 48) + (i 0).val % 48 = (i 0).val; omega
      | ⟨1, _⟩ => exact emb_col _ _
    exact Finset.mem_map.mpr ⟨locOf i, Finset.mem_univ _, this⟩

theorem rows_disjoint (d d' : Dev nD) (h : d ≠ d') : Disjoint (rowsOf d) (rowsOf d') := by
  rw [Finset.disjoint_left]; intro i hi hi'
  exact h (((mem_rowsOf d i).mp hi).symm.trans ((mem_rowsOf d' i).mp hi'))
theorem rows_cover : Finset.univ.biUnion rowsOf = Finset.univ := by
  ext i; simp only [Finset.mem_biUnion, Finset.mem_univ, true_and, iff_true]
  exact ⟨ownerOf i, (mem_rowsOf _ i).mpr rfl⟩

/-- Reading device `d`'s rows of the gathered array gives what `d` computes; -/
theorem read_gath (d : Dev nD) : (bM d).view.read (Elt F) (gath m ρ) = blockOf m ρ d := by
  funext x
  show blockOf m ρ (ownerOf ((bM d).view.emb x)) (locOf ((bM d).view.emb x)) = _
  rw [owner_emb, loc_emb]
/-- and writing that to device `d`'s rows of any contents gives the gathered array there. -/
theorem write_gath (d : Dev nD) (f : (cc0_scratch0 : Ref sig .tc).ty.Contents (Elt F)) :
    ∀ i ∈ rowsOf d, (bM d).view.write (Elt F) f (blockOf m ρ d) Finset.univ i = gath m ρ i := by
  intro i hi
  obtain ⟨x, -, rfl⟩ := Finset.mem_map.mp hi
  rw [View.write_emb_of_mem _ _ (Finset.mem_univ x)]
  show blockOf m ρ d x = blockOf m ρ (ownerOf ((bM d).view.emb x)) (locOf ((bM d).view.emb x))
  rw [owner_emb, loc_emb]

/-- Device `c` holding rows `d` of its gather buffer at share `q` and contents `f`. -/
def rowsPts (c d : Dev nD) (q : PosShare TreeShare) (f : Buf (Elt F) ((c : Thread nD τ).loc cc0_scratch0)) : sProp 𝕄 :=
  ((c : Thread nD τ).loc cc0_scratch0) ↦[rowsOf d]{q} f

omit [FloatOps F] in
instance rowsPts_storable (c d : Dev nD) (q) (f) : BI.Storable (upEmb : UEmb _ 𝕄) (rowsPts (F := F) c d q f) := by unfold rowsPts; infer_instance

omit [FloatOps F] in
theorem rowsPts_congr (c d : Dev nD) (q) {f g : Buf (Elt F) ((c : Thread nD τ).loc cc0_scratch0)} (h : ∀ i ∈ rowsOf d, f i = g i) :
    (rowsPts c d q f : sProp 𝕄) = rowsPts c d q g := pointsTo_congr h

omit [FloatOps F] in
/-- The gather buffer held whole is held by rows, device by device. -/
theorem scratch_rows (c : Dev nD) (q) (f : Buf (Elt F) ((c : Thread nD τ).loc cc0_scratch0)) :
    (((c : Thread nD τ).loc cc0_scratch0) ↦{q} f : sProp 𝕄) = bigSep Finset.univ fun d : Dev nD => rowsPts c d q f :=
  Ring.pointsTo_blocks (ℓ := (c : Thread nD τ).loc cc0_scratch0) rowsOf rows_disjoint rows_cover f

/-! ## Shares: each of the fifteen transfers borrows one read share of the sender's own rows -/

abbrev lent (j : Fin 15) : PosShare TreeShare := Transfers.shareTok fullShare 15 j
abbrev kept : PosShare TreeShare := Transfers.shareDrop fullShare 15

/-! ## The schedule -/

/-- The credit of one transfer of a device's rows. -/
abbrev N : ℕ := (bM 0 : Memref sig .tc .vmem S48x1024 .bf16).view.dmaCredit
theorem N_pos : 0 < N := View.dmaCredit_pos _ (by decide)

/-- What peer `nxt c j`'s signal hands device `c`: the rows of `c` in that peer's gather buffer. -/
def barPay (c : Dev nD) (j : Fin 15) : sProp 𝕄 := iprop(∃ f, rowsPts (nxt c j) c fullShare f)
def recvPay (c : Dev nD) (j : Fin 15) : sProp 𝕄 := rowsPts c (prv c j) fullShare (gath m ρ)
def sendPay (c : Dev nD) (j : Fin 15) : sProp 𝕄 := rowsPts c c (lent j) (gath m ρ)

/-- The number of the send or receive semaphore behind a DMA semaphore. -/
def jOf (k : ℕ) : Fin 15 := ⟨k % 15, Nat.mod_lt _ (by decide)⟩

/-- Round 0 only: the barrier cell has fifteen duties of one unit; each send and receive cell the duty `0` of the
    rows' credit. -/
def ringRd : Rounds.Schedule (GSem nD τ sig) (Fin 15) 𝕄 where
  duties g r := if r = 0 ∧ g.1.2 = .tc then (match g.2 with
    | .reg _ => Finset.univ
    | .dma s => if 4 ≤ s.val then {0} else ∅) else ∅
  unitless _ := False
  amount g _ _ := match g.2 with
    | .reg _ => 1
    | .dma _ => N
  payload g _ d := match g.2 with
    | .reg _ => barPay g.1.1 d
    | .dma s => if s.val < 19 then sendPay m ρ g.1.1 (jOf (s.val - 4)) else recvPay m ρ g.1.1 (jOf (s.val - 19))
  amount_pos g _ _ _ := by
    rcases g with ⟨t, s | s⟩
    · exact Nat.one_pos
    · exact N_pos

instance ringRd_payload_storable (g : GSem nD τ sig) (r : ℕ) (d : Fin 15) :
    BI.Storable (upEmb : UEmb _ 𝕄) ((ringRd (F := F) m ρ).payload g r d) := by
  rcases g with ⟨t, s | s⟩
  · show BI.Storable upEmb (barPay t.1 d); unfold barPay; infer_instance
  · show BI.Storable upEmb (if s.val < 19 then sendPay m ρ t.1 (jOf (s.val - 4)) else recvPay m ρ t.1 (jOf (s.val - 19)))
    unfold sendPay recvPay; split <;> infer_instance

section Sched
variable (c : Dev nD) (j : Fin 15)

theorem jOf_send : jOf ((sendS j).val - 4) = j := by
  rw [sendS_val]; apply Fin.ext; have := j.isLt; show (4 + j.val - 4) % 15 = j.val; omega
theorem jOf_recv : jOf ((recvS j).val - 19) = j := by
  rw [recvS_val]; apply Fin.ext; have := j.isLt; show (19 + j.val - 19) % 15 = j.val; omega

theorem duties_bar : (ringRd (F := F) m ρ).duties (barCell c) 0 = Finset.univ := by
  dsimp only [ringRd]; rw [if_pos ⟨rfl, rfl⟩]
theorem duties_send : (ringRd (F := F) m ρ).duties (sendCell c j) 0 = {0} := by
  dsimp only [ringRd]; rw [if_pos ⟨rfl, rfl⟩]; refine if_pos ?_; rw [sendS_val]; omega
theorem duties_recv : (ringRd (F := F) m ρ).duties (recvCell c j) 0 = {0} := by
  dsimp only [ringRd]; rw [if_pos ⟨rfl, rfl⟩]; refine if_pos ?_; rw [recvS_val]; omega
theorem duties_later (g : GSem nD τ sig) : ∀ r, 1 ≤ r → (ringRd (F := F) m ρ).duties g r = ∅ :=
  fun r hr => if_neg fun h => by omega

theorem amount_bar (d : Fin 15) : (ringRd (F := F) m ρ).amount (barCell c) 0 d = 1 := rfl
theorem amount_send (d : Fin 15) : (ringRd (F := F) m ρ).amount (sendCell c j) 0 d = N := rfl
theorem amount_recv (d : Fin 15) : (ringRd (F := F) m ρ).amount (recvCell c j) 0 d = N := rfl

theorem expect_bar : (ringRd (F := F) m ρ).expect (barCell c) 0 = 15 := by
  unfold Schedule.expect Schedule.amountOf
  rw [duties_bar, Finset.sum_congr rfl fun d _ => amount_bar m ρ c d]; decide
theorem expect_send : (ringRd (F := F) m ρ).expect (sendCell c j) 0 = N := by
  unfold Schedule.expect Schedule.amountOf; rw [duties_send, Finset.sum_singleton, amount_send]
theorem expect_recv : (ringRd (F := F) m ρ).expect (recvCell c j) 0 = N := by
  unfold Schedule.expect Schedule.amountOf; rw [duties_recv, Finset.sum_singleton, amount_recv]

theorem payload_bar (d : Fin 15) : (ringRd (F := F) m ρ).payload (barCell c) 0 d = barPay c d := rfl
theorem payload_send (d : Fin 15) : (ringRd (F := F) m ρ).payload (sendCell c j) 0 d = sendPay m ρ c j := by
  refine (if_pos ?_).trans ?_
  · rw [sendS_val]; have := j.isLt; omega
  · rw [jOf_send]
theorem payload_recv (d : Fin 15) : (ringRd (F := F) m ρ).payload (recvCell c j) 0 d = recvPay m ρ c j := by
  refine (if_neg ?_).trans ?_
  · rw [recvS_val]; omega
  · rw [jOf_recv]

theorem rest_bar : bigSep ((ringRd (F := F) m ρ).duties (barCell c) 0 \ ∅) (fun d => (ringRd (F := F) m ρ).payload (barCell c) 0 d)
    = bigSep Finset.univ fun d => barPay c d := by
  rw [Finset.sdiff_empty, duties_bar]; rfl
theorem rest_send : bigSep ((ringRd (F := F) m ρ).duties (sendCell c j) 0 \ ∅) (fun d => (ringRd (F := F) m ρ).payload (sendCell c j) 0 d) = sendPay m ρ c j := by
  rw [Finset.sdiff_empty, duties_send, bigSep_singleton, payload_send]
theorem rest_recv : bigSep ((ringRd (F := F) m ρ).duties (recvCell c j) 0 \ ∅) (fun d => (ringRd (F := F) m ρ).payload (recvCell c j) 0 d) = recvPay m ρ c j := by
  rw [Finset.sdiff_empty, duties_recv, bigSep_singleton, payload_recv]

end Sched

/-! ## What each device owes at launch; the levels -/

/-- The receive credits device `c` owes its peers from number `n` on; -/
def owedR (c : Dev nD) (n : ℕ) : CellTallies nD τ sig Unit := ∑ j ∈ upFrom n, tallyAt (recvCell (nxt c j) j) () N
/-- the barrier units it owes them. -/
def owedB (c : Dev nD) (n : ℕ) : CellTallies nD τ sig Unit := ∑ j ∈ upFrom n, tallyAt (barCell (nxt c j)) () 1
def O₀ (c : Dev nD) : CellTallies nD τ sig Unit := owedR c 0 + owedB c 0

theorem owedR_step (c : Dev nD) (j : Fin 15) : owedR c j.val = owedR c (j.val + 1) + tallyAt (recvCell (nxt c j) j) () N := by
  unfold owedR; rw [upFrom_step j, Finset.sum_insert (notMem_upFrom j), add_comm]
theorem owedB_step (c : Dev nD) (j : Fin 15) : owedB c j.val = owedB c (j.val + 1) + tallyAt (barCell (nxt c j)) () 1 := by
  unfold owedB; rw [upFrom_step j, Finset.sum_insert (notMem_upFrom j), add_comm]
theorem owedR_end (c : Dev nD) : owedR c 15 = 0 := by unfold owedR; rw [upFrom_end, Finset.sum_empty]
theorem owedB_end (c : Dev nD) : owedB c 15 = 0 := by unfold owedB; rw [upFrom_end, Finset.sum_empty]

def L (g : GSem nD τ sig) : Finset Unit := if g.1.2 = .tc then {()} else ∅
/-- barrier cells at 1, receive cells at 2, everything else (staging, send) at 0. -/
def lv (g : GSem nD τ sig) (_ : Unit) : ℕ := match g.2 with
  | .reg _ => 1
  | .dma s => if 19 ≤ s.val then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (j : Fin 15) (u : Unit) : lv (recvCell c j) u = 2 := by
  refine if_pos ?_; rw [recvS_val]; omega

theorem owedR_apply (c : Dev nD) (n : ℕ) (g : GSem nD τ sig) (u : Unit) :
    owedR c n g u = ∑ j ∈ upFrom n, (tallyAt (recvCell (nxt c j) j) () N : CellTallies nD τ sig Unit) g u := by
  unfold owedR; rw [Finset.sum_apply, Finsupp.finset_sum_apply]
theorem owedB_apply (c : Dev nD) (n : ℕ) (g : GSem nD τ sig) (u : Unit) :
    owedB c n g u = ∑ j ∈ upFrom n, (tallyAt (barCell (nxt c j)) () 1 : CellTallies nD τ sig Unit) g u := by
  unfold owedB; rw [Finset.sum_apply, Finsupp.finset_sum_apply]

theorem owedR_pos {c : Dev nD} {n : ℕ} {g : GSem nD τ sig} {u : Unit} (h : 0 < owedR c n g u) : ∃ d j, g = recvCell d j := by
  rw [owedR_apply] at h
  obtain ⟨j, -, hj⟩ := Finset.exists_ne_zero_of_sum_ne_zero h.ne'
  rw [tallyAt_apply] at hj
  by_contra hn
  exact hj (if_neg fun h' => hn ⟨_, _, h'.1⟩)
theorem owedB_pos {c : Dev nD} {n : ℕ} {g : GSem nD τ sig} {u : Unit} (h : 0 < owedB c n g u) : ∃ d, g = barCell d := by
  rw [owedB_apply] at h
  obtain ⟨j, -, hj⟩ := Finset.exists_ne_zero_of_sum_ne_zero h.ne'
  rw [tallyAt_apply] at hj
  by_contra hn
  exact hj (if_neg fun h' => hn ⟨_, h'.1⟩)
theorem O₀_pos {c : Dev nD} {g : GSem nD τ sig} {u : Unit} (h : 0 < O₀ c g u) : (∃ d j, g = recvCell d j) ∨ ∃ d, g = barCell d := by
  unfold O₀ at h
  rw [Pi.add_apply, Finsupp.add_apply] at h
  rcases Nat.eq_zero_or_pos (owedR c 0 g u) with h0 | h0
  · right; exact owedB_pos (n := 0) (by rw [h0, zero_add] at h; exact h)
  · left; exact owedR_pos h0

omit [FloatOps F] in
/-- A staging cell may be waited on while owing what the device owes at launch, or nothing. -/
theorem mayWait_stage (c : Dev nD) (q : DmaSem sig) (hq : q.val < 19) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨d, j, rfl⟩ | ⟨d, rfl⟩ <;> exact Finset.mem_singleton_self _)
      (fun p hp => by rw [Finset.mem_singleton.mp hp]; exact (if_neg (by omega)).le)
      (fun g u hg => by
        rcases O₀_pos hg with ⟨d, j, rfl⟩ | ⟨d, rfl⟩
        · rw [lv_recv]; decide
        · exact Nat.one_pos)
  · rw [MayWait_zero]; iintro -; iempintro

omit [FloatOps F] in
/-- At its barrier wait a device owes its peers' receive credits only: receive cells, above its barrier cell. -/
theorem mayWait_bar (c : Dev nD) (n : ℕ) :
    (levAts L lv : sProp 𝕄) ⊢ MayWait (c : Thread nD τ) (.reg barS) () (owedR c n) :=
  MayOwe.of_cut (L := L) (lev := lv) 1 (fun p hp => by rw [Finset.mem_singleton.mp hp, L_tc]; exact Finset.mem_singleton_self _)
    (fun g u hg => by obtain ⟨d, j, rfl⟩ := owedR_pos hg; exact Finset.mem_singleton_self _)
    (fun p hp => by rw [Finset.mem_singleton.mp hp]; exact le_refl 1)
    (fun g u hg => by obtain ⟨d, j, rfl⟩ := owedR_pos hg; rw [lv_recv]; decide)

end Cert.KernelIdeal.Run

end
-- ==== Proof.RunKernelIdeal.Step.lean ====
/-
# One step of each kind

The body has fifteen signals, fifteen transfers, fifteen waits for rows and fifteen waits for its own transfers. Here
is the state before number `n` of each kind, and the rule that takes one step from `n` to `n + 1`.
-/
module

public import proofs.«01_k».proof.Proof.RunKernelIdeal.Proto

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells by index, their invariants and reached marks -/

abbrev CI : Type := Unit ⊕ (Fin 15 ⊕ Fin 15)
def csem : CI → SemLoc sig
  | .inl _ => .reg barS
  | .inr (.inl j) => .dma (sendS j)
  | .inr (.inr j) => .dma (recvS j)
def kcell (ck : Dev nD × CI) : GSem nD τ sig := ((ck.1 : Thread nD τ), csem ck.2)

abbrev 𝒱₀ : Variants := Variants.none

/-- Every cell's invariant, at the names `K`, and that every cell has reached round 0: known to every device. -/
def records (K : Dev nD × CI → ℕ) : sProp 𝕄 :=
  iprop((bigSep Finset.univ fun ck => cellInv ER (ringRd m ρ) (K ck) (kcell ck)) ∗ bigSep Finset.univ fun ck => reached ER (kcell ck) 0)

instance records_persistent (K : Dev nD × CI → ℕ) : BI.Persistent (records m ρ K) := by unfold records; infer_instance

theorem records_inv (K : Dev nD × CI → ℕ) (ck : Dev nD × CI) : records m ρ K ⊢ cellInv ER (ringRd m ρ) (K ck) (kcell ck) := by
  have h : (bigSep Finset.univ fun ck => (cellInv ER (ringRd m ρ) (K ck) (kcell ck) : sProp 𝕄)) ⊢ cellInv ER (ringRd m ρ) (K ck) (kcell ck) :=
    bigSep_elim (Finset.mem_univ ck)
  unfold records
  iintro ⟨H, -⟩
  iapply h; iexact H
theorem records_reached (K : Dev nD × CI → ℕ) (ck : Dev nD × CI) : records m ρ K ⊢ reached ER (kcell ck) 0 := by
  have h : (bigSep Finset.univ fun ck => (reached ER (kcell ck) 0 : sProp 𝕄)) ⊢ reached ER (kcell ck) 0 := bigSep_elim (Finset.mem_univ ck)
  unfold records
  iintro ⟨-, H⟩
  iapply h; iexact H

/-- Device `c` owing `O`, whatever it has waited for. -/
def Owe (c : Dev nD) (O : CellTallies nD τ sig Unit) : sProp 𝕄 := iprop(∃ W, owes (c : Thread nD τ) O W)

/-! ## The states -/

def sigItem (c : Dev nD) (j : Fin 15) : sProp 𝕄 :=
  iprop(dutyTok ER (barCell (nxt c j)) 0 j.rev ∗ ∃ f, rowsPts c (nxt c j) fullShare f)
/-- Before signal `n`: the later signals' duty tokens and the rows they hand over. -/
def SigSt (c : Dev nD) (n : ℕ) : sProp 𝕄 :=
  iprop(Owe c (owedR c 0 + owedB c n) ∗ bigSep (upFrom n) (sigItem c))

def sendItem (c : Dev nD) (j : Fin 15) : sProp 𝕄 :=
  iprop(dutyTok ER (recvCell (nxt c j) j) 0 0 ∗ dutyTok ER (sendCell c j) 0 0 ∗ sendPay m ρ c j ∗ barPay c j)
/-- Before transfer `n`: what the later transfers need, and the credits of the earlier ones. -/
def SendSt (c : Dev nD) (n : ℕ) : sProp 𝕄 :=
  iprop(Owe c (owedR c n) ∗ bigSep (upFrom n) (sendItem m ρ c) ∗ bigSep (below n) fun j => cred (tallyAt (sendCell c j) () N))

/-- Before receive wait `n`: the later waits' credits and positions; the earlier ones' rows and closed cells. -/
def RecvSt (c : Dev nD) (n : ℕ) : sProp 𝕄 :=
  iprop(Owe c 0 ∗ (bigSep (upFrom n) fun j => iprop(cred (tallyAt (recvCell c j) () N) ∗ atPos ER (recvCell c j) 0 ∅ 0))
    ∗ bigSep (below n) fun j => iprop(recvPay m ρ c j ∗ semVal (recvCell c j) 0))

/-- Before send wait `n`: the later waits' credits and positions; the earlier ones' lent shares and closed cells. -/
def DoneSt (c : Dev nD) (n : ℕ) : sProp 𝕄 :=
  iprop(Owe c 0 ∗ (bigSep (upFrom n) fun j => iprop(cred (tallyAt (sendCell c j) () N) ∗ atPos ER (sendCell c j) 0 ∅ 0))
    ∗ bigSep (below n) fun j => iprop(sendPay m ρ c j ∗ semVal (sendCell c j) 0))

section Steps

variable (K : Dev nD × CI → ℕ) (c : Dev nD) (j : Fin 15)

/-- The signal to peer `j` hands that peer its rows of this device's gather buffer. -/
theorem step_signal {α : Type} {Q : α → sProp 𝕄} {k : PUnit → Prog (TpuEff nD τ sig (Elt F) Λ₀ .tc) α} {R : sProp 𝕄} (n : Dev nD) (hn : n = nxt c j)
    (h : iprop(records m ρ K ∗ SigSt c (j.val + 1) ∗ R) ⊢ wp frame (wpE (defs₀ (F := F)) 𝒱₀ (c : Thread nD τ) none) Set.univ (k ⟨⟩) Q) :
    iprop(records m ρ K ∗ SigSt c j.val ∗ R)
      ⊢ wp frame (wpE (defs₀ (F := F)) 𝒱₀ (c : Thread nD τ) none) Set.univ (.op (.semSignal (n : Thread nD τ) barS (1#32).toInt) k) Q := by
  subst hn
  unfold SigSt at h ⊢
  rw [bigSep_upFrom, owedB_step, ← add_assoc]
  unfold Owe sigItem at h ⊢
  iintro ⟨#Hrec, ⟨⟨%W, HO⟩, ⟨Ht, Hrows⟩, Hrest⟩, HR⟩
  iapply (Rounds.wp_signal 𝒱₀ ER (ringRd m ρ) (c : Thread nD τ) none (dst := (nxt c j : Thread nD τ)) (κ := K (nxt c j, .inl ()))
      (d := j.rev) (by rw [duties_bar]; exact Finset.mem_univ _) ((amount_bar m ρ (nxt c j) j.rev).trans (by decide)) () (owedR c 0 + owedB c (j.val + 1)) rfl)
    $$ [HO Ht Hrows]
  · isplitr; · iapply (records_inv m ρ K (nxt c j, .inl ())); iexact Hrec
    isplitl [HO]; · iexact HO
    isplitl [Ht]; · iexact Ht
    isplitl [Hrows]
    · rw [payload_bar]; unfold barPay; rw [nxt_rev]; iexact Hrows
    iapply (records_reached m ρ K (nxt c j, .inl ())); iexact Hrec
  iintro HO
  iapply h
  isplitr; · iexact Hrec
  isplitl [HO Hrest]
  · isplitl [HO]; · iexists W; iexact HO
    iexact Hrest
  iexact HR

/-- Every device's rows have the same credit. -/
theorem credit_eq (c : Dev nD) : (bM c).view.dmaCredit = N := rfl

/-- What a transfer to peer `j` leaves there is what the peer's receive cell is promised. -/
theorem landed_pay (fd : Buf (Elt F) ((bM c).view.loc (nxt c j : Thread nD τ))) :
    (((bM c).view.loc (nxt c j : Thread nD τ)) ↦[(bM c).view.set]{fullShare} ((bM c).view.write (Elt F) fd ((bM c).view.read (Elt F) (gath m ρ)) Finset.univ) : sProp 𝕄)
      ⊢ (ringRd (F := F) m ρ).payload (recvCell (nxt c j) j) 0 0 := by
  rw [payload_recv]; unfold recvPay; rw [prv_nxt, read_gath]
  exact Entails.of_eq (rowsPts_congr (nxt c j) c fullShare (write_gath m ρ c fd))

/-- The library's transfer rule at these cells. -/
theorem wp_transfer {α : Type} {Q : α → sProp 𝕄} {k : PUnit → Prog (TpuEff nD τ sig (Elt F) Λ₀ .tc) α}
    {hsc : (bM c : Memref sig (Dev.tc (nxt c j) : Thread nD τ).2.kind .vmem S48x1024 .bf16).view.ref.isScScratch = false}
    {hsrc : (bM c).view.WordExact} {hdst : (bM c).view.WordExact}
    {hsem : DmaTarget.Typed .vmem (.dma (recvS j)) (.remote (Dev.tc (nxt c j) : Thread nD τ) (bM c) (.dma (sendS j)) hsc)}
    (fd : Buf (Elt F) ((bM c).view.loc (nxt c j : Thread nD τ))) (W : Waits sig Unit) (O : CellTallies nD τ sig Unit) :
    iprop(cellInv ER (ringRd m ρ) (K (c, .inr (.inl j))) (sendCell c j) ∗ cellInv ER (ringRd m ρ) (K (nxt c j, .inr (.inr j))) (recvCell (nxt c j) j)
        ∗ (((bM c).view.loc (c : Thread nD τ)) ↦[(bM c).view.set]{lent j} gath m ρ)
        ∗ (((bM c).view.loc (nxt c j : Thread nD τ)) ↦[(bM c).view.set]{fullShare} fd)
        ∗ owes (c : Thread nD τ) (O + tallyAt (recvCell (nxt c j) j) () N) W
        ∗ dutyTok ER (sendCell c j) 0 0 ∗ reached ER (sendCell c j) 0
        ∗ dutyTok ER (recvCell (nxt c j) j) 0 0 ∗ reached ER (recvCell (nxt c j) j) 0)
      ⊢ iprop(((cred (tallyAt (sendCell c j) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (bM c) (.remote (Dev.tc (nxt c j) : Thread nD τ) (bM c) (.dma (sendS j)) hsc) (.dma (recvS j)) hsrc hdst hsem) k) Q) := by
  have hr : τ.routes (c : Thread nD τ) (nxt c j : Thread nD τ) = true := by routes
  have h := Rounds.wp_send_pointsTo (defs := defs₀ (F := F)) (Γ := .nil) 𝒱₀ ER (ringRd m ρ) (c : Thread nD τ) none (c' := (nxt c j : Thread nD τ))
    (src := bM c) (dst := bM c) (sS := .dma (sendS j)) (sem := .dma (recvS j)) (hsc := hsc) (hsrc := hsrc) (hdst := hdst) (hsem := hsem) (k := k) (q := lent j) (Q := Q)
    (κ₁ := K (c, .inr (.inl j))) (κ₂ := K (nxt c j, .inr (.inr j))) (r₁ := 0) (r₂ := 0) (d₁ := 0) (d₂ := 0) (fs := gath m ρ) (fd := fd)
    (by rw [duties_send]; exact Finset.mem_singleton_self _) (by rw [duties_recv]; exact Finset.mem_singleton_self _)
    () () N (credit_eq c) (amount_send m ρ c j 0) (amount_recv m ρ (nxt c j) j 0) (O₀ := O + tallyAt (recvCell (nxt c j) j) () N) O rfl (W := W)
    (by rw [payload_send]; exact BI.Entails.refl _) (landed_pay m ρ c j fd) (Es := Set.univ) hr
  exact h

/-- The transfer to peer `j` lends it one share of this device's rows and pays the peer's receive cell. -/
theorem step_send {α : Type} {Q : α → sProp 𝕄} {k : PUnit → Prog (TpuEff nD τ sig (Elt F) Λ₀ .tc) α} {R : sProp 𝕄} (n : Dev nD) (hn : n = nxt c j) {hsc : (bM c : Memref sig (Dev.tc n : Thread nD τ).2.kind .vmem S48x1024 .bf16).view.ref.isScScratch = false}
    {hsrc : (bM c).view.WordExact} {hdst : (bM c).view.WordExact}
    {hsem : DmaTarget.Typed .vmem (.dma (recvS j)) (.remote (Dev.tc n : Thread nD τ) (bM c) (.dma (sendS j)) hsc)}
    (h : iprop(records m ρ K ∗ SendSt m ρ c (j.val + 1) ∗ R) ⊢ wp frame (wpE (defs₀ (F := F)) 𝒱₀ (c : Thread nD τ) none) Set.univ (k ⟨⟩) Q) :
    iprop(records m ρ K ∗ SendSt m ρ c j.val ∗ R)
      ⊢ wp frame (wpE (defs₀ (F := F)) 𝒱₀ (c : Thread nD τ) none) Set.univ
          (.op (.enqueueDma (bM c) (.remote (Dev.tc n : Thread nD τ) (bM c) (.dma (sendS j)) hsc) (.dma (recvS j)) hsrc hdst hsem) k) Q := by
  subst hn
  unfold SendSt at h ⊢
  rw [bigSep_upFrom, owedR_step]
  rw [bigSep_below] at h
  unfold Owe at h ⊢
  unfold sendItem barPay sendPay rowsPts at h ⊢
  iintro ⟨#Hrec, ⟨⟨%W, HO⟩, ⟨⟨Htr, Hts, Hown, ⟨%fd, Hdst⟩⟩, Hrest⟩, Hcr⟩, HR⟩
  iapply (wp_transfer m ρ K c j fd W (owedR c (j.val + 1)))
    $$ [HO Htr Hts Hown Hdst]
  · isplitr; · iapply (records_inv m ρ K (c, .inr (.inl j))); iexact Hrec
    isplitr; · iapply (records_inv m ρ K (nxt c j, .inr (.inr j))); iexact Hrec
    isplitl [Hown]; · iexact Hown
    isplitl [Hdst]; · iexact Hdst
    isplitl [HO]; · iexact HO
    isplitl [Hts]; · iexact Hts
    isplitr; · iapply (records_reached m ρ K (c, .inr (.inl j))); iexact Hrec
    isplitl [Htr]; · iexact Htr
    iapply (records_reached m ρ K (nxt c j, .inr (.inr j))); iexact Hrec
  iintro ⟨Hc, HO⟩
  iapply h
  isplitr; · iexact Hrec
  isplitl [HO Hrest Hcr Hc]
  · isplitl [HO]; · iexists W; iexact HO
    isplitl [Hrest]; · iexact Hrest
    isplitl [Hc]; · iexact Hc
    iexact Hcr
  iexact HR

/-- The wait on receive cell `j` brings the rows of the device `j + 1` places before, and the cell closes. -/
theorem step_recv {α : Type} {Q : α → sProp 𝕄} {k : PUnit → Prog (TpuEff nD τ sig (Elt F) Λ₀ .tc) α} {R : sProp 𝕄} {src dst : Memref sig .tc .vmem S48x1024 .bf16} (hcr : dst.view.dmaCredit = N) {hsrc : src.view.WordExact} {hdst : dst.view.WordExact}
    (h : iprop(records m ρ K ∗ RecvSt m ρ c (j.val + 1) ∗ R) ⊢ wp frame (wpE (defs₀ (F := F)) 𝒱₀ (c : Thread nD τ) none) Set.univ (k ⟨⟩) Q) :
    iprop(records m ρ K ∗ RecvSt m ρ c j.val ∗ R)
      ⊢ wp frame (wpE (defs₀ (F := F)) 𝒱₀ (c : Thread nD τ) none) Set.univ (.op (.waitDma2 (recvS j) src dst hsrc hdst) k) Q := by
  unfold RecvSt at h ⊢
  rw [bigSep_upFrom]
  rw [bigSep_below] at h
  unfold Owe at h ⊢
  iintro ⟨#Hrec, ⟨⟨%W, HO⟩, ⟨⟨Hc, Hat⟩, Hrest⟩, Hgot⟩, HR⟩
  iapply (Rounds.wp_wait_rest_token 𝒱₀ ER (ringRd m ρ) (c : Thread nD τ) none (κ := K (c, .inr (.inr j)))
      (wpE_waitDma2_eq 𝒱₀ (c : Thread nD τ) none Set.univ) (Set.mem_univ _) () (O := 0) (W := W) (R := 0) (m := 0) (T := ∅)
      (by rw [Nat.zero_add, expect_recv, hcr])) $$ [Hc HO Hat]
  · isplitr; · iapply (records_inv m ρ K (c, .inr (.inr j))); iexact Hrec
    isplitl [Hc]; · rw [hcr]; iexact Hc
    isplitl [HO]; · iexact HO
    isplitr; · rw [MayWait_zero]; iempintro
    iexact Hat
  iintro ⟨HO, Hat, -, Hpay⟩
  ihave Hp := (Entails.of_eq (rest_recv m ρ c j)) $$ Hpay
  imod (Rounds.cell_close ER (ringRd m ρ) (Set.mem_univ (K (c, .inr (.inr j)))) (fun h => h) (R := 0 + 1) (duties_later m ρ (recvCell c j))) $$ [Hat] with Hz
  · isplitr; · iapply (records_inv m ρ K (c, .inr (.inr j))); iexact Hrec
    iexact Hat
  iapply h
  isplitr; · iexact Hrec
  isplitl [HO Hrest Hgot Hp Hz]
  · isplitl [HO]; · iexists _; iexact HO
    isplitl [Hrest]; · iexact Hrest
    isplitl [Hp Hz]
    · isplitl [Hp]; · iexact Hp
      iexact Hz
    iexact Hgot
  iexact HR

/-- The wait on send cell `j` brings back the share lent to transfer `j`, and the cell closes. -/
theorem step_done {α : Type} {Q : α → sProp 𝕄} {k : PUnit → Prog (TpuEff nD τ sig (Elt F) Λ₀ .tc) α} {R : sProp 𝕄} {src dst : Memref sig .tc .vmem S48x1024 .bf16} (hcr : dst.view.dmaCredit = N) {hsrc : src.view.WordExact} {hdst : dst.view.WordExact}
    (h : iprop(records m ρ K ∗ DoneSt m ρ c (j.val + 1) ∗ R) ⊢ wp frame (wpE (defs₀ (F := F)) 𝒱₀ (c : Thread nD τ) none) Set.univ (k ⟨⟩) Q) :
    iprop(records m ρ K ∗ DoneSt m ρ c j.val ∗ R)
      ⊢ wp frame (wpE (defs₀ (F := F)) 𝒱₀ (c : Thread nD τ) none) Set.univ (.op (.waitDma2 (sendS j) src dst hsrc hdst) k) Q := by
  unfold DoneSt at h ⊢
  rw [bigSep_upFrom]
  rw [bigSep_below] at h
  unfold Owe at h ⊢
  iintro ⟨#Hrec, ⟨⟨%W, HO⟩, ⟨⟨Hc, Hat⟩, Hrest⟩, Hgot⟩, HR⟩
  iapply (Rounds.wp_wait_rest_token 𝒱₀ ER (ringRd m ρ) (c : Thread nD τ) none (κ := K (c, .inr (.inl j)))
      (wpE_waitDma2_eq 𝒱₀ (c : Thread nD τ) none Set.univ) (Set.mem_univ _) () (O := 0) (W := W) (R := 0) (m := 0) (T := ∅)
      (by rw [Nat.zero_add, expect_send, hcr])) $$ [Hc HO Hat]
  · isplitr; · iapply (records_inv m ρ K (c, .inr (.inl j))); iexact Hrec
    isplitl [Hc]; · rw [hcr]; iexact Hc
    isplitl [HO]; · iexact HO
    isplitr; · rw [MayWait_zero]; iempintro
    iexact Hat
  iintro ⟨HO, Hat, -, Hpay⟩
  ihave Hp := (Entails.of_eq (rest_send m ρ c j)) $$ Hpay
  imod (Rounds.cell_close ER (ringRd m ρ) (Set.mem_univ (K (c, .inr (.inl j)))) (fun h => h) (R := 0 + 1) (duties_later m ρ (sendCell c j))) $$ [Hat] with Hz
  · isplitr; · iapply (records_inv m ρ K (c, .inr (.inl j))); iexact Hrec
    iexact Hat
  iapply h
  isplitr; · iexact Hrec
  isplitl [HO Hrest Hgot Hp Hz]
  · isplitl [HO]; · iexists _; iexact HO
    isplitl [Hrest]; · iexact Hrest
    isplitl [Hp Hz]
    · isplitl [Hp]; · iexact Hp
      iexact Hz
    iexact Hgot
  iexact HR

end Steps

end Cert.KernelIdeal.Run

end
-- ==== Proof.RunKernelIdeal.Body.lean ====
/-
# The body

The kernel's body run from what the launch gives a device to what the device gives back: the fifteen signals, the
device's own rows computed and stored, the barrier wait, the fifteen transfers, the fifteen receive waits, the result
computed from the gathered array and stored, the fifteen send waits.
-/
module

public import proofs.«01_k».proof.Proof.RunKernelIdeal.Step

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's proof data -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the protocol gives device `c`: the records; its positions at its cells; the duty tokens it pays with. -/
def ghost (K : Dev nD × CI → ℕ) (c : Dev nD) : sProp 𝕄 :=
  iprop(records m ρ K ∗ atPos ER (barCell c) 0 ∅ 0
    ∗ (bigSep Finset.univ fun j => atPos ER (sendCell c j) 0 ∅ 0) ∗ (bigSep Finset.univ fun j => atPos ER (recvCell c j) 0 ∅ 0)
    ∗ (bigSep Finset.univ fun j => dutyTok ER (barCell (nxt c j)) 0 j.rev)
    ∗ (bigSep Finset.univ fun j => dutyTok ER (recvCell (nxt c j) j) 0 0) ∗ (bigSep Finset.univ fun j => dutyTok ER (sendCell c j) 0 0))

/-- The credits it waits with and the levels. -/
def creds (c : Dev nD) : sProp 𝕄 :=
  iprop(cred (tallyAt (barCell c) () 15) ∗ (bigSep Finset.univ fun j => cred (tallyAt (recvCell c j) () N)) ∗ levAts L lv)

def start (c : Dev nD) : sProp 𝕄 := iprop((∃ K, ghost m ρ K c) ∗ creds c)

def Φ₀ (c : Dev nD) : sProp 𝕄 := iprop(start m ρ c ∗ ∃ f, ((c : Thread nD τ).loc cc0_scratch0) ↦{fullShare} f)
/-- After the body: the gather buffer holding the gathered array, and every cell at zero and closed. -/
def Φ₁ (c : Dev nD) : sProp 𝕄 :=
  iprop((((c : Thread nD τ).loc cc0_scratch0) ↦{fullShare} gath m ρ) ∗ (bigSep Finset.univ fun j => semVal (sendCell c j) 0)
    ∗ (bigSep Finset.univ fun j => semVal (recvCell c j) 0) ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => estg m ρ c
    | ⟨2, _⟩ => wstg m ρ c
    | ⟨3, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

/-! ## Devices other than `c`, counted as its peers -/

omit [FloatOps F] in
theorem bigSep_nxt (c : Dev nD) (Φ : Dev nD → sProp 𝕄) :
    bigSep Finset.univ Φ = iprop(Φ c ∗ bigSep Finset.univ fun j => Φ (nxt c j)) := by
  have hu : (Finset.univ : Finset (Dev nD)) = insert c (Finset.univ.map ⟨nxt c, nxt_inj c⟩) := by
    ext d; simp only [Finset.mem_univ, Finset.mem_insert, Finset.mem_map, true_and, true_iff]
    by_cases h : d = c
    · exact Or.inl h
    · exact Or.inr (nxt_surj c d h)
  rw [hu, bigSep_insert (fun h => by obtain ⟨j, -, hj⟩ := Finset.mem_map.mp h; exact nxt_ne c j hj), bigSep_map]; rfl
omit [FloatOps F] in
theorem bigSep_prv (c : Dev nD) (Φ : Dev nD → sProp 𝕄) :
    bigSep Finset.univ Φ = iprop(Φ c ∗ bigSep Finset.univ fun j => Φ (prv c j)) := by
  have hu : (Finset.univ : Finset (Dev nD)) = insert c (Finset.univ.map ⟨prv c, prv_inj c⟩) := by
    ext d; simp only [Finset.mem_univ, Finset.mem_insert, Finset.mem_map, true_and, true_iff]
    by_cases h : d = c
    · exact Or.inl h
    · exact Or.inr (prv_surj c d h)
  rw [hu, bigSep_insert (fun h => by obtain ⟨j, -, hj⟩ := Finset.mem_map.mp h; exact prv_ne c j hj), bigSep_map]; rfl

/-- The share of rows kept and the fifteen lent make the whole. -/
theorem rows_split (c d : Dev nD) (f : Buf (Elt F) ((c : Thread nD τ).loc cc0_scratch0)) :
    (rowsPts c d fullShare f : sProp 𝕄) ⊢ iprop(rowsPts c d kept f ∗ bigSep Finset.univ fun j => rowsPts c d (lent j) f) :=
  Transfers.pointsTo_toks_split fullShare 15
theorem rows_join (c d : Dev nD) (f : Buf (Elt F) ((c : Thread nD τ).loc cc0_scratch0)) :
    iprop(rowsPts c d kept f ∗ bigSep Finset.univ fun j => rowsPts c d (lent j) f) ⊢ (rowsPts c d fullShare f : sProp 𝕄) :=
  Transfers.pointsTo_toks_join fullShare 15

/-! ## The loads and stores -/

theorem hz2 : (![0, 0] : Fin 2 → Nat) = fun _ => 0 := funext fun a => by fin_cases a <;> rfl

theorem write_out (f w : (cc0_stg3_0 : Ref sig .tc).ty.Contents (Elt F)) :
    (oM.access (Rect.unit (s := S1024x1024) ![0, 0] S1024x1024.size inb_S1024x1024_S1024x1024_0_0) : View sig .tc _ _ _).write (Elt F) f w Finset.univ = w :=
  Memref.write_access_unit_zero_univ (Elt F) cc0_stg3_0 hz2 _ f w

section Body

variable (K : Dev nD × CI → ℕ) (c : Dev nD)

theorem rows_set {off : Fin 2 → ℕ} (h : off = k0_off2 c) (inb : ∀ a, off a + S48x1024.size a ≤ S768x1024.size a) :
    (gM.access (Rect.unit (s := S768x1024) off S48x1024.size inb)).set ⊆ rowsOf c := by
  subst h; exact Finset.Subset.refl _
theorem rows_write {off : Fin 2 → ℕ} (h : off = k0_off2 c) (inb : ∀ a, off a + S48x1024.size a ≤ S768x1024.size a)
    (f : (cc0_scratch0 : Ref sig .tc).ty.Contents (Elt F)) :
    ∀ i ∈ rowsOf c, (gM.access (Rect.unit (s := S768x1024) off S48x1024.size inb)).write (Elt F) f (blockOf m ρ c) Finset.univ i = gath m ρ i := by
  subst h; exact write_gath m ρ c f

theorem off1_off2 : k0_off1 c = k0_off2 c := (k0_off1_eq c).trans (k0_off2_eq c).symm

theorem blockOf_eq : blockOf m ρ c = k0_pay10 (k0_pay9
    (k0_pay6 (myw c) (k0_pay1 (estg m ρ c)) (k0_pay2 (estg m ρ c)) (xstg m ρ c))
    (iota .tc S48x1 32 [0] iota_S48x1_d0_w32)
    (k0_pay7 (myw c) (k0_pay1 (estg m ρ c)) (k0_pay2 (estg m ρ c)) (xstg m ρ c) (wM.view.readAt (Elt F) (wRect 0).toLoadRect (wstg m ρ c)))
    k0_pay8 (wM.view.readAt (Elt F) (wRect 1).toLoadRect (wstg m ρ c)) (wM.view.readAt (Elt F) (wRect 2).toLoadRect (wstg m ρ c))
    (wM.view.readAt (Elt F) (wRect 3).toLoadRect (wstg m ρ c))) := rfl

/-- After the store the device's own rows hold the gathered array's. -/
theorem rows_stored (f : Buf (Elt F) ((c : Thread nD τ).loc cc0_scratch0)) :
    (((gM.access (Rect.unit (s := S768x1024) (k0_off1 c) S48x1024.size (k0_off1_inb c))).loc (c : Thread nD τ)) ↦[rowsOf c]{fullShare}
      ((gM.access (Rect.unit (s := S768x1024) (k0_off1 c) S48x1024.size (k0_off1_inb c))).write (Elt F) f (blockOf m ρ c) Finset.univ) : sProp 𝕄)
      ⊢ rowsPts c c fullShare (gath m ρ) :=
  Entails.of_eq (rowsPts_congr c c fullShare (rows_write m ρ c (off1_off2 c) (k0_off1_inb c) f))

/-- Every received block's share split, and joined again. -/
theorem got_split : (bigSep Finset.univ fun j => (rowsPts c (prv c j) fullShare (gath m ρ) : sProp 𝕄))
    ⊢ iprop((bigSep Finset.univ fun j => rowsPts c (prv c j) kept (gath m ρ))
      ∗ bigSep Finset.univ fun j => bigSep Finset.univ fun i => rowsPts c (prv c j) (lent i) (gath m ρ)) := by
  rw [← bigSep_sep']; exact bigSep_mono fun j _ => rows_split c (prv c j) (gath m ρ)
theorem got_join : iprop((bigSep Finset.univ fun j => rowsPts c (prv c j) kept (gath m ρ))
      ∗ bigSep Finset.univ fun j => bigSep Finset.univ fun i => rowsPts c (prv c j) (lent i) (gath m ρ))
    ⊢ (bigSep Finset.univ fun j => (rowsPts c (prv c j) fullShare (gath m ρ) : sProp 𝕄)) := by
  rw [← bigSep_sep']; exact bigSep_mono fun j _ => rows_join c (prv c j) (gath m ρ)

/-- Rows of any contents, peer by peer. -/
theorem rows_any (f : Buf (Elt F) ((c : Thread nD τ).loc cc0_scratch0)) : (bigSep Finset.univ fun j => (rowsPts c (nxt c j) fullShare f : sProp 𝕄))
    ⊢ bigSep Finset.univ fun j => iprop(∃ f, rowsPts c (nxt c j) fullShare f) :=
  bigSep_mono fun j _ => by
    have h : (rowsPts c (nxt c j) fullShare f : sProp 𝕄) ⊢ iprop(∃ f, rowsPts c (nxt c j) fullShare f) := by
      iintro H; iexists f; iexact H
    exact h

/-! ## The states between the phases -/

/-- The three staged inputs at their contents and the result's staging buffer at any or the final contents. -/
def Stg (out : sProp 𝕄) : sProp 𝕄 :=
  iprop((((c : Thread nD τ).loc cc0_stg0_0) ↦{fullShare} xstg m ρ c) ∗ (((c : Thread nD τ).loc cc0_stg1_0) ↦{fullShare} estg m ρ c)
    ∗ (((c : Thread nD τ).loc cc0_stg2_0) ↦{fullShare} wstg m ρ c) ∗ out)
def outAny : sProp 𝕄 := iprop(∃ g, ((c : Thread nD τ).loc cc0_stg3_0) ↦{fullShare} g)
def outDone : sProp 𝕄 := ((c : Thread nD τ).loc cc0_stg3_0) ↦{fullShare} outAt m ρ c

/-- What the receive and send waits will use. -/
def later (Z : sProp 𝕄) : sProp 𝕄 :=
  iprop((bigSep Finset.univ fun j => cred (tallyAt (recvCell c j) () N)) ∗ (bigSep Finset.univ fun j => atPos ER (recvCell c j) 0 ∅ 0)
    ∗ (bigSep Finset.univ fun j => atPos ER (sendCell c j) 0 ∅ 0) ∗ Z)

/-- Beside the signals. -/
def RA (Z : sProp 𝕄) : sProp 𝕄 :=
  iprop(levAts L lv ∗ cred (tallyAt (barCell c) () 15) ∗ atPos ER (barCell c) 0 ∅ 0 ∗ (∃ f, rowsPts c c fullShare f)
    ∗ (bigSep Finset.univ fun j => dutyTok ER (recvCell (nxt c j) j) 0 0) ∗ (bigSep Finset.univ fun j => dutyTok ER (sendCell c j) 0 0)
    ∗ Stg m ρ c (outAny c) ∗ later c Z)
/-- Beside the transfers. -/
def RB (Z : sProp 𝕄) : sProp 𝕄 :=
  iprop(rowsPts c c kept (gath m ρ) ∗ atPos ER (barCell c) (0 + 1) ∅ 0 ∗ Stg m ρ c (outAny c) ∗ later c Z)
/-- Beside the receive waits. -/
def RC (Z : sProp 𝕄) : sProp 𝕄 :=
  iprop(rowsPts c c kept (gath m ρ) ∗ atPos ER (barCell c) (0 + 1) ∅ 0 ∗ Stg m ρ c (outAny c)
    ∗ (bigSep Finset.univ fun j => cred (tallyAt (sendCell c j) () N)) ∗ (bigSep Finset.univ fun j => atPos ER (sendCell c j) 0 ∅ 0) ∗ Z)
/-- Beside the send waits. -/
def RD (Z : sProp 𝕄) : sProp 𝕄 :=
  iprop(rowsPts c c kept (gath m ρ) ∗ (bigSep Finset.univ fun j => recvPay m ρ c j) ∗ (bigSep Finset.univ fun j => semVal (recvCell c j) 0)
    ∗ atPos ER (barCell c) (0 + 1) ∅ 0 ∗ Stg m ρ c (outDone m ρ c) ∗ Z)

/-! ## The phases -/

theorem own_phase {α : Type} {Q : α → sProp 𝕄} {Z : sProp 𝕄} {hle hlx hw0 hw1 hw2 hw3 hlg hst hsm}
    {k : Vec F S1024x1 .i32 → PUnit → Prog (TpuEff nD τ sig (Elt F) Λ₀ .tc) α}
    (h : iprop(records m ρ K ∗ SendSt m ρ c 0 ∗ RB m ρ c Z) ⊢ wp frame (wpE (defs₀ (F := F)) 𝒱₀ (c : Thread nD τ) none) Set.univ (k (estg m ρ c) ⟨⟩) Q) :
    iprop(records m ρ K ∗ SigSt c 15 ∗ RA m ρ c Z) ⊢ wp frame (wpE (defs₀ (F := F)) 𝒱₀ (c : Thread nD τ) none) Set.univ
      (.op (.load eM (Rect.unit (s := S1024x1) ![0, 0] S1024x1.size inb_S1024x1_S1024x1_0_0).toLoadRect hle) fun ve =>
       .op (.load xM (Rect.unit (s := S1024x512) ![0, 0] S1024x512.size inb_S1024x512_S1024x512_0_0).toLoadRect hlx) fun vx =>
       .op (.load wM (wRect 0).toLoadRect hw0) fun w0 => .op (.load wM (wRect 1).toLoadRect hw1) fun w1 =>
       .op (.load wM (wRect 2).toLoadRect hw2) fun w2 => .op (.load wM (wRect 3).toLoadRect hw3) fun w3 =>
       .op (.load gM (Rect.unit (s := S768x1024) (k0_off1 c) S48x1024.size (k0_off1_inb c)).toLoadRect hlg) fun _ =>
       .op (.store gM (Rect.unit (s := S768x1024) (k0_off1 c) S48x1024.size (k0_off1_inb c))
        (k0_pay10 (k0_pay9 (k0_pay6 (myw c) (k0_pay1 ve) (k0_pay2 ve) vx) (iota .tc S48x1 32 [0] iota_S48x1_d0_w32)
          (k0_pay7 (myw c) (k0_pay1 ve) (k0_pay2 ve) vx w0) k0_pay8 w1 w2 w3)) Finset.univ hst hsm) fun _ =>
       .op (.semWait barS (15#32).toInt) (k ve)) Q := by
  unfold RA Stg outAny SigSt Owe
  rw [owedB_end, upFrom_end, add_zero]
  iintro ⟨#Hrec, ⟨⟨%W, HO⟩, -⟩, #Hlev, Hcb, Hat, ⟨%f, Hown⟩, Htr, Hts, ⟨Hx, He, Hw, Ho⟩, Hl⟩
  iapply (wp_load 𝒱₀ (c : Thread nD τ) none Set.univ (m := eM) (Finset.subset_univ _)) $$ He; iintro He
  rw [show (eM : Memref sig .tc .vmem S1024x1 .i32).view.readAt (Elt F) _ (estg m ρ c) = estg m ρ c from Memref.readAt_unit_zero (Elt F) cc0_stg1_0 hz2 _ _]
  iapply (wp_load 𝒱₀ (c : Thread nD τ) none Set.univ (m := xM) (Finset.subset_univ _)) $$ Hx; iintro Hx
  rw [show (xM : Memref sig .tc .vmem S1024x512 .bf16).view.readAt (Elt F) _ (xstg m ρ c) = xstg m ρ c from Memref.readAt_unit_zero (Elt F) cc0_stg0_0 hz2 _ _]
  iapply (wp_load 𝒱₀ (c : Thread nD τ) none Set.univ (m := wM) (Finset.subset_univ _)) $$ Hw; iintro Hw
  iapply (wp_load 𝒱₀ (c : Thread nD τ) none Set.univ (m := wM) (Finset.subset_univ _)) $$ Hw; iintro Hw
  iapply (wp_load 𝒱₀ (c : Thread nD τ) none Set.univ (m := wM) (Finset.subset_univ _)) $$ Hw; iintro Hw
  iapply (wp_load 𝒱₀ (c : Thread nD τ) none Set.univ (m := wM) (Finset.subset_univ _)) $$ Hw; iintro Hw
  unfold rowsPts
  iapply (wp_load 𝒱₀ (c : Thread nD τ) none Set.univ (m := gM) (Memref.setOn_subset_of_access_subset (c : Thread nD τ) (rows_set c (off1_off2 c) (k0_off1_inb c)))) $$ Hown; iintro Hown
  iapply (wp_store 𝒱₀ (c : Thread nD τ) none Set.univ (m := gM) (r := Rect.unit (s := S768x1024) (k0_off1 c) S48x1024.size (k0_off1_inb c)) (Mk := Finset.univ)
    (rows_set c (off1_off2 c) (k0_off1_inb c))) $$ Hown; iintro Hown
  rw [← blockOf_eq]
  ihave Hown := (rows_stored m ρ c f) $$ Hown
  iapply (Rounds.wp_wait_rest_token 𝒱₀ ER (ringRd m ρ) (c : Thread nD τ) none (κ := K (c, .inl ()))
      (wpE_semWait_eq 𝒱₀ (c : Thread nD τ) none Set.univ) (Set.mem_univ _) () (O := owedR c 0) (W := W) (R := 0) (m := 0) (T := ∅)
      (by rw [expect_bar]; decide)) $$ [Hcb HO Hat]
  · isplitr; · iapply (records_inv m ρ K (c, .inl ())); iexact Hrec
    isplitl [Hcb]; · iexact Hcb
    isplitl [HO]; · iexact HO
    isplitr; · iapply (mayWait_bar c 0); iexact Hlev
    iexact Hat
  iintro ⟨HO, Hat, -, Hpay⟩
  ihave Hp := (Entails.of_eq (rest_bar m ρ c)) $$ Hpay
  ihave Hs := (rows_split c c (gath m ρ)) $$ Hown
  icases Hs with ⟨Hk, Hlent⟩
  iapply h
  isplitr; · iexact Hrec
  isplitl [HO Htr Hts Hlent Hp]
  · unfold SendSt Owe sendItem sendPay
    isplitl [HO]; · iexists _; iexact HO
    rw [upFrom_zero, below_zero, bigSep_empty, bigSep_sep', bigSep_sep', bigSep_sep']
    isplitl
    · isplitl [Htr]; · iexact Htr
      isplitl [Hts]; · iexact Hts
      isplitl [Hlent]; · iexact Hlent
      iexact Hp
    · iempintro
  unfold RB Stg outAny
  isplitl [Hk]; · iexact Hk
  isplitl [Hat]; · iexact Hat
  isplitl [Hx He Hw Ho]
  · isplitl [Hx]; · iexact Hx
    isplitl [He]; · iexact He
    isplitl [Hw]; · iexact Hw
    iexact Ho
  iexact Hl

theorem sent {Z : sProp 𝕄} : iprop(records m ρ K ∗ SendSt m ρ c 15 ∗ RB m ρ c Z) ⊢ iprop(records m ρ K ∗ RecvSt m ρ c 0 ∗ RC m ρ c Z) := by
  unfold SendSt RB RecvSt RC later
  rw [owedR_end, upFrom_end, below_end, upFrom_zero, below_zero, bigSep_empty, bigSep_empty, bigSep_sep']
  iintro ⟨Hrec, ⟨HO, -, Hcs⟩, Hk, Hat, Hst, Hcr, Har, Has, HZ⟩
  isplitl [Hrec]; · iexact Hrec
  isplitl [HO Hcr Har]
  · isplitl [HO]; · iexact HO
    isplitl
    · isplitl [Hcr]; · iexact Hcr
      iexact Har
    iempintro
  isplitl [Hk]; · iexact Hk
  isplitl [Hat]; · iexact Hat
  isplitl [Hst]; · iexact Hst
  isplitl [Hcs]; · iexact Hcs
  isplitl [Has]; · iexact Has
  iexact HZ

theorem out_phase {α : Type} {Q : α → sProp 𝕄} {Z : sProp 𝕄} {hlg hlo hst hsm}
    {k : PUnit → Prog (TpuEff nD τ sig (Elt F) Λ₀ .tc) α}
    (h : iprop(records m ρ K ∗ DoneSt m ρ c 0 ∗ RD m ρ c Z) ⊢ wp frame (wpE (defs₀ (F := F)) 𝒱₀ (c : Thread nD τ) none) Set.univ (k ⟨⟩) Q) :
    iprop(records m ρ K ∗ RecvSt m ρ c 15 ∗ RC m ρ c Z) ⊢ wp frame (wpE (defs₀ (F := F)) 𝒱₀ (c : Thread nD τ) none) Set.univ
      (.op (.load gM (Rect.unit (s := S768x1024) ![0, 0] S768x1024.size inb_S768x1024_S768x1024_0_0).toLoadRect hlg) fun vg =>
       .op (.load oM (Rect.unit (s := S1024x1024) ![0, 0] S1024x1024.size inb_S1024x1024_S1024x1024_0_0).toLoadRect hlo) fun _ =>
       .op (.store oM (Rect.unit (s := S1024x1024) ![0, 0] S1024x1024.size inb_S1024x1024_S1024x1024_0_0)
        (k0_pay12 (k0_pay11 (F := F) (k0_pay4 (k0_pay2 (estg m ρ c))) (k0_pay5 (k0_pay1 (estg m ρ c)) (k0_pay2 (estg m ρ c)))) vg) Finset.univ hst hsm) k) Q := by
  unfold RecvSt RC Stg outAny
  rw [below_end, upFrom_end, bigSep_empty, bigSep_sep']
  iintro ⟨Hrec, ⟨HO, -, Hgot, Hz⟩, Hk, Hat, ⟨Hx, He, Hw, ⟨%g, Ho⟩⟩, Hcs, Has, HZ⟩
  unfold recvPay
  ihave Hs := (got_split m ρ c) $$ Hgot
  icases Hs with ⟨Hgk, Hgl⟩
  ihave Hg := (Entails.of_eq ((scratch_rows c kept (gath m ρ)).trans (bigSep_prv c _)).symm) $$ [Hk Hgk]
  · isplitl [Hk]; · iexact Hk
    iexact Hgk
  iapply (wp_load 𝒱₀ (c : Thread nD τ) none Set.univ (m := gM) (Finset.subset_univ _)) $$ Hg; iintro Hg
  rw [show (gM : Memref sig .tc .vmem S768x1024 .bf16).view.readAt (Elt F) _ (gath m ρ) = gath m ρ from Memref.readAt_unit_zero (Elt F) cc0_scratch0 hz2 _ _]
  ihave Hs := (Entails.of_eq ((scratch_rows c kept (gath m ρ)).trans (bigSep_prv c _))) $$ Hg
  icases Hs with ⟨Hk, Hgk⟩
  ihave Hgot := (got_join m ρ c) $$ [Hgk Hgl]
  · isplitl [Hgk]; · iexact Hgk
    iexact Hgl
  iapply (wp_load 𝒱₀ (c : Thread nD τ) none Set.univ (m := oM) (Finset.subset_univ _)) $$ Ho; iintro Ho
  iapply (wp_store 𝒱₀ (c : Thread nD τ) none Set.univ (m := oM) (r := Rect.unit (s := S1024x1024) ![0, 0] S1024x1024.size inb_S1024x1024_S1024x1024_0_0) (Mk := Finset.univ)
    (Finset.subset_univ _)) $$ Ho; iintro Ho
  rw [write_out]
  iapply h
  isplitl [Hrec]; · iexact Hrec
  isplitl [HO Hcs Has]
  · unfold DoneSt
    rw [upFrom_zero, below_zero, bigSep_empty, bigSep_sep']
    isplitl [HO]; · iexact HO
    isplitl
    · isplitl [Hcs]; · iexact Hcs
      iexact Has
    iempintro
  unfold RD Stg outDone outAt recvPay
  isplitl [Hk]; · iexact Hk
  isplitl [Hgot]; · iexact Hgot
  isplitl [Hz]; · iexact Hz
  isplitl [Hat]; · iexact Hat
  isplitl [Hx He Hw Ho]
  · isplitl [Hx]; · iexact Hx
    isplitl [He]; · iexact He
    isplitl [Hw]; · iexact Hw
    iexact Ho
  iexact HZ

/-- What the body hands back. -/
def bodyPost : sProp 𝕄 :=
  iprop(Φ₁ m ρ c ∗ (dats m ρ 0 c).owesAt () t0_0.succ ∗ stg c cc0_stg0_0 (xstg m ρ c) ∗ stg c cc0_stg1_0 (estg m ρ c)
    ∗ stg c cc0_stg2_0 (wstg m ρ c) ∗ stg c cc0_stg3_0 (outAt m ρ c))

theorem finish {Kt : PUnit → sProp 𝕄} :
    iprop(records m ρ K ∗ DoneSt m ρ c 15 ∗ RD m ρ c iprop(bodyPost m ρ c -∗ Kt ⟨⟩)) ⊢ wp frame (wpE (defs₀ (F := F)) 𝒱₀ (c : Thread nD τ) none) Set.univ (.ret ⟨⟩) Kt := by
  unfold DoneSt RD Stg outDone Owe
  rw [below_end, upFrom_end, bigSep_empty, bigSep_sep']
  iintro ⟨#Hrec, ⟨⟨%W, HO⟩, -, Hlent, Hzs⟩, Hk, Hgot, Hzr, Hat, ⟨Hx, He, Hw, Ho⟩, Hpost⟩
  imod (Rounds.cell_close ER (ringRd m ρ) (Set.mem_univ (K (c, .inl ()))) (fun h => h) (R := 0 + 1) (duties_later m ρ (barCell c))) $$ [Hat] with Hzb
  · isplitr; · iapply (records_inv m ρ K (c, .inl ())); iexact Hrec
    iexact Hat
  rw [wp_ret]; imodintro
  unfold sendPay recvPay
  ihave Hown := (rows_join c c (gath m ρ)) $$ [Hk Hlent]
  · isplitl [Hk]; · iexact Hk
    iexact Hlent
  ihave Hg := (Entails.of_eq ((scratch_rows c fullShare (gath m ρ)).trans (bigSep_prv c _)).symm) $$ [Hown Hgot]
  · isplitl [Hown]; · iexact Hown
    iexact Hgot
  iapply Hpost
  unfold bodyPost Φ₁ Dat.owesAt Pipeline.owesWithin
  rw [show (dats m ρ 0 c).owed t0_0.succ = 0 from rfl]
  isplitl [Hg Hzs Hzr Hzb]
  · isplitl [Hg]; · iexact Hg
    isplitl [Hzs]; · iexact Hzs
    isplitl [Hzr]; · iexact Hzr
    iexact Hzb
  isplitl [HO]
  · iexists W
    isplitr; · ipureintro; exact fun _ _ => Or.inl trivial
    iexact HO
  isplitl [Hx]
  · iexists _; isplitr; · (ipureintro; rfl)
    iexact Hx
  isplitl [He]
  · iexists _; isplitr; · (ipureintro; rfl)
    iexact He
  isplitl [Hw]
  · iexists _; isplitr; · (ipureintro; rfl)
    iexact Hw
  iexists _; isplitr; · (ipureintro; rfl)
  iexact Ho

/-! ## The whole body -/

def bodyPre : sProp 𝕄 :=
  iprop((ghost m ρ K c ∗ creds c ∗ ∃ f, ((c : Thread nD τ).loc cc0_scratch0) ↦{fullShare} f)
    ∗ (dats m ρ 0 c).owesAt () t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))

theorem begin_body {Z : sProp 𝕄} : iprop(bodyPre m ρ K c ∗ Z) ⊢ iprop(records m ρ K ∗ SigSt c 0 ∗ RA m ρ c Z) := by
  unfold bodyPre ghost creds
  iintro ⟨⟨⟨⟨Hrec, Hab, Has, Har, Htb, Htr, Hts⟩, ⟨Hcb, Hcr, Hlev⟩, ⟨%f, Hscr⟩⟩, Ho, ⟨%d0, %g0, %hg0, Hx⟩, ⟨%d1, %g1, %hg1, He⟩, ⟨%d2, %g2, %hg2, Hw⟩, ⟨%d3, %g3, %hg3, Hout⟩⟩, HZ⟩
  have hx : g0 = xstg m ρ c := by rw [hg0]; unfold Dat.before; rw [if_pos (fetch0_0 t0_0)]; rfl
  have he : g1 = estg m ρ c := by rw [hg1]; unfold Dat.before; rw [if_pos (fetch0_1 t0_0)]; rfl
  have hw : g2 = wstg m ρ c := by rw [hg2]; unfold Dat.before; rw [if_pos (fetch0_2 t0_0)]; rfl
  subst hx he hw
  unfold Dat.owesAt Pipeline.owesWithin
  icases Ho with ⟨%W, %hW, HO⟩
  rw [show (dats m ρ 0 c).owed t0_0.castSucc = O₀ c from rfl]
  ihave Hs := (Entails.of_eq ((scratch_rows c fullShare f).trans (bigSep_nxt c _))) $$ Hscr
  icases Hs with ⟨Hown, Hoth⟩
  isplitl [Hrec]; · iexact Hrec
  isplitl [HO Htb Hoth]
  · unfold SigSt sigItem Owe O₀
    rw [upFrom_zero, bigSep_sep']
    isplitl [HO]; · iexists W; iexact HO
    isplitl [Htb]; · iexact Htb
    iapply (rows_any c f) $$ Hoth
  unfold RA Stg outAny later
  isplitl [Hlev]; · iexact Hlev
  isplitl [Hcb]; · iexact Hcb
  isplitl [Hab]; · iexact Hab
  isplitl [Hown]; · iexists f; iexact Hown
  isplitl [Htr]; · iexact Htr
  isplitl [Hts]; · iexact Hts
  isplitl [Hx He Hw Hout]
  · isplitl [Hx]; · iexact Hx
    isplitl [He]; · iexact He
    isplitl [Hw]; · iexact Hw
    iexists g3; iexact Hout
  isplitl [Hcr]; · iexact Hcr
  isplitl [Har]; · iexact Har
  isplitl [Has]; · iexact Has
  iexact HZ

theorem dev_eq {n : ℕ} {h : n < nD} {c : Dev nD} {j : Fin 15} (e : n = (c.val + (j.val + 1)) % 16) : (⟨n, h⟩ : Dev nD) = nxt c j := Fin.ext e

end Body

end Cert.KernelIdeal.Run

end
-- ==== Proof.RunKernelIdeal.Sound.lean ====
/-
# The body, effect by effect

The program's eighty effects in order, each by its rule.
-/
module

public import proofs.«01_k».proof.Proof.RunKernelIdeal.Body

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CI → ℕ) (c : Dev nD)

set_option maxHeartbeats 2000000 in
/-- The body, one step per effect in program order. -/
theorem sound_body (Kt : PUnit → sProp 𝕄) :
    iprop(bodyPre m ρ K c ∗ (bodyPost m ρ c -∗ Kt ⟨⟩)) ⊢ wp frame (wpE (defs₀ (F := F)) 𝒱₀ c none) Set.univ
      (cc0__body (Memref.whole cc0_stg0_0) (Memref.isWhole_whole _) (Memref.whole cc0_stg1_0) (Memref.isWhole_whole _) (Memref.whole cc0_stg2_0) (Memref.isWhole_whole _)
        (Memref.whole cc0_stg3_0) (Memref.isWhole_whole _) (Memref.whole cc0_scratch0) (Memref.isWhole_whole _) cc0_scratch1 cc0_scratch2) Kt := by
  simp only [cc0__body_eq_skeleton]; unfold cc0__body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel
  simp only [semSignalWord, semWaitWord, Prog.lift, Prog.bind_op, Prog.bind_ret, Prog.pure_eq_ret, wp_deviceId]
  refine (begin_body m ρ K c).trans ?_
  refine step_signal m ρ K c 0 _ (dev_eq (k0_dev1_eq c)) ?_
  refine step_signal m ρ K c 1 _ (dev_eq (k0_dev2_eq c)) ?_
  refine step_signal m ρ K c 2 _ (dev_eq (k0_dev3_eq c)) ?_
  refine step_signal m ρ K c 3 _ (dev_eq (k0_dev4_eq c)) ?_
  refine step_signal m ρ K c 4 _ (dev_eq (k0_dev5_eq c)) ?_
  refine step_signal m ρ K c 5 _ (dev_eq (k0_dev6_eq c)) ?_
  refine step_signal m ρ K c 6 _ (dev_eq (k0_dev7_eq c)) ?_
  refine step_signal m ρ K c 7 _ (dev_eq (k0_dev8_eq c)) ?_
  refine step_signal m ρ K c 8 _ (dev_eq (k0_dev9_eq c)) ?_
  refine step_signal m ρ K c 9 _ (dev_eq (k0_dev10_eq c)) ?_
  refine step_signal m ρ K c 10 _ (dev_eq (k0_dev11_eq c)) ?_
  refine step_signal m ρ K c 11 _ (dev_eq (k0_dev12_eq c)) ?_
  refine step_signal m ρ K c 12 _ (dev_eq (k0_dev13_eq c)) ?_
  refine step_signal m ρ K c 13 _ (dev_eq (k0_dev14_eq c)) ?_
  refine step_signal m ρ K c 14 _ (dev_eq (k0_dev15_eq c)) ?_
  refine own_phase m ρ K c ?_
  refine step_send m ρ K c 0 _ (dev_eq (k0_dev16_eq c)) ?_
  refine step_send m ρ K c 1 _ (dev_eq (k0_dev17_eq c)) ?_
  refine step_send m ρ K c 2 _ (dev_eq (k0_dev18_eq c)) ?_
  refine step_send m ρ K c 3 _ (dev_eq (k0_dev19_eq c)) ?_
  refine step_send m ρ K c 4 _ (dev_eq (k0_dev20_eq c)) ?_
  refine step_send m ρ K c 5 _ (dev_eq (k0_dev21_eq c)) ?_
  refine step_send m ρ K c 6 _ (dev_eq (k0_dev22_eq c)) ?_
  refine step_send m ρ K c 7 _ (dev_eq (k0_dev23_eq c)) ?_
  refine step_send m ρ K c 8 _ (dev_eq (k0_dev24_eq c)) ?_
  refine step_send m ρ K c 9 _ (dev_eq (k0_dev25_eq c)) ?_
  refine step_send m ρ K c 10 _ (dev_eq (k0_dev26_eq c)) ?_
  refine step_send m ρ K c 11 _ (dev_eq (k0_dev27_eq c)) ?_
  refine step_send m ρ K c 12 _ (dev_eq (k0_dev28_eq c)) ?_
  refine step_send m ρ K c 13 _ (dev_eq (k0_dev29_eq c)) ?_
  refine step_send m ρ K c 14 _ (dev_eq (k0_dev30_eq c)) ?_
  refine (sent m ρ K c).trans ?_
  refine step_recv m ρ K c 0 (by rfl) ?_
  refine step_recv m ρ K c 1 (by rfl) ?_
  refine step_recv m ρ K c 2 (by rfl) ?_
  refine step_recv m ρ K c 3 (by rfl) ?_
  refine step_recv m ρ K c 4 (by rfl) ?_
  refine step_recv m ρ K c 5 (by rfl) ?_
  refine step_recv m ρ K c 6 (by rfl) ?_
  refine step_recv m ρ K c 7 (by rfl) ?_
  refine step_recv m ρ K c 8 (by rfl) ?_
  refine step_recv m ρ K c 9 (by rfl) ?_
  refine step_recv m ρ K c 10 (by rfl) ?_
  refine step_recv m ρ K c 11 (by rfl) ?_
  refine step_recv m ρ K c 12 (by rfl) ?_
  refine step_recv m ρ K c 13 (by rfl) ?_
  refine step_recv m ρ K c 14 (by rfl) ?_
  refine out_phase m ρ K c ?_
  refine step_done m ρ K c 0 (by rfl) ?_
  refine step_done m ρ K c 1 (by rfl) ?_
  refine step_done m ρ K c 2 (by rfl) ?_
  refine step_done m ρ K c 3 (by rfl) ?_
  refine step_done m ρ K c 4 (by rfl) ?_
  refine step_done m ρ K c 5 (by rfl) ?_
  refine step_done m ρ K c 6 (by rfl) ?_
  refine step_done m ρ K c 7 (by rfl) ?_
  refine step_done m ρ K c 8 (by rfl) ?_
  refine step_done m ρ K c 9 (by rfl) ?_
  refine step_done m ρ K c 10 (by rfl) ?_
  refine step_done m ρ K c 11 (by rfl) ?_
  refine step_done m ρ K c 12 (by rfl) ?_
  refine step_done m ρ K c 13 (by rfl) ?_
  refine step_done m ρ K c 14 (by rfl) ?_
  exact finish m ρ K c

end Cert.KernelIdeal.Run

end
-- ==== Proof.RunKernelIdeal.Launch.lean ====
/-
# The launch

From any memory with zero counters the kernel runs to the end on every device: each device's arrays end at the contents
computed here, the array no window covers is unchanged and every semaphore counter is zero.
-/
module

public import Idealize.ShloMosaic.Lib.Pipeline.Frame
public import Idealize.ShloMosaic.Lib.Pipeline.CollectiveSegs
public import proofs.«01_k».proof.Proof.RunKernelIdeal.Sound

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body obligation -/

theorem owns_stg (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns stg; simp only [Memref.view_whole, View.read_whole, View.set_whole]

def pointPre (c : Dev nD) : sProp 𝕄 :=
  iprop(Φ₀ m ρ c ∗ (dats m ρ 0 c).owesAt () t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))

set_option maxRecDepth 20000 in
/-- What the pipeline asks of the body at its one point. -/
theorem body_obligation (c : Dev nD) : BodyObligation (dats (F := F) m ρ 0 c) (defs₀ (F := F)) 𝒱₀ () Set.univ := fun t => by
  rw [show t = t0_0 from fin_N0 t]
  rw [show ∀ Φ : Fin cfg0.W → sProp 𝕄, bigSep Finset.univ Φ = _ from bigSep_W0, show ∀ Φ : Fin cfg0.W → sProp 𝕄, bigSep Finset.univ Φ = _ from bigSep_W0]
  simp only [owns_stg]
  show pointPre m ρ c ⊢ wp frame (wpE (defs₀ (F := F)) 𝒱₀ c none) Set.univ
      (cc0__body (Memref.whole cc0_stg0_0) (Memref.isWhole_whole _) (Memref.whole cc0_stg1_0) (Memref.isWhole_whole _) (Memref.whole cc0_stg2_0) (Memref.isWhole_whole _)
        (Memref.whole cc0_stg3_0) (Memref.isWhole_whole _) (Memref.whole cc0_scratch0) (Memref.isWhole_whole _) cc0_scratch1 cc0_scratch2) (fun _ => bodyPost m ρ c)
  unfold pointPre Φ₀ start
  iintro ⟨⟨⟨⟨%K, Hg⟩, Hc⟩, Hscr⟩, Ho, Hst⟩
  iapply (sound_body m ρ K c fun _ => bodyPost m ρ c)
  unfold bodyPre
  isplitr []
  · isplitl [Hg Hc Hscr]
    · isplitl [Hg]; · iexact Hg
      isplitl [Hc]; · iexact Hc
      iexact Hscr
    isplitl [Ho]; · iexact Ho
    iexact Hst
  · iintro H; iexact H

/-! ## The cells and tokens at launch -/

abbrev osem : Fin 15 ⊕ Fin 15 → SemLoc sig
  | .inl j => .dma (sendS j)
  | .inr j => .dma (recvS j)

theorem ownSemFacts : Pipeline.OwnSemFacts cfg0.spec osem := by decide

theorem share_eq (c : Dev nD) (w : Fin cfg0.W) : (dats m ρ 0 c).share w = fullShare := by unfold Dat.share; split <;> rfl

theorem sendS_inj {i j : Fin 15} (h : sendS i = sendS j) : i = j := by
  have := congrArg Fin.val h; rw [sendS_val, sendS_val] at this; exact Fin.ext (by omega)
theorem recvS_inj {i j : Fin 15} (h : recvS i = recvS j) : i = j := by
  have := congrArg Fin.val h; rw [recvS_val, recvS_val] at this; exact Fin.ext (by omega)
theorem sendS_ne_recvS (i j : Fin 15) : sendS i ≠ recvS j := fun h => by
  have := congrArg Fin.val h; rw [sendS_val, recvS_val] at this; have := i.isLt; omega

theorem csem_injective : Function.Injective csem := by
  rintro (_ | i | i) (_ | j | j) h
  · rfl
  · cases h
  · cases h
  · cases h
  · rw [sendS_inj (SemLoc.dma.inj h)]
  · exact absurd (SemLoc.dma.inj h) (sendS_ne_recvS i j)
  · cases h
  · exact absurd (SemLoc.dma.inj h).symm (sendS_ne_recvS j i)
  · rw [recvS_inj (SemLoc.dma.inj h)]

theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]
def ringCells : Finset (GSem nD τ sig) := Finset.univ.map ⟨kcell, kcell_injective⟩

/-- A device's own cells' duty tokens: fifteen of its barrier cell, one of each send and receive cell. -/
abbrev TI : Type := Fin 15 ⊕ (Fin 15 ⊕ Fin 15)
def tokOf (x : Dev nD × TI) : GSem nD τ sig × ℕ × Fin 15 := match x.2 with
  | .inl k => (barCell x.1, 0, k)
  | .inr (.inl j) => (sendCell x.1 j, 0, 0)
  | .inr (.inr j) => (recvCell x.1 j, 0, 0)
theorem tokOf_injective : Function.Injective tokOf := by
  rintro ⟨c, k⟩ ⟨c', k'⟩ h
  have h1 : c = c' := by
    have := congrArg (fun x : GSem nD τ sig × ℕ × Fin 15 => x.1.1.1) h
    rcases k with _ | _ | _ <;> rcases k' with _ | _ | _ <;> exact this
  have hs := congrArg (fun x : GSem nD τ sig × ℕ × Fin 15 => x.1.2) h
  have hd := congrArg (fun x : GSem nD τ sig × ℕ × Fin 15 => x.2.2) h
  subst h1
  rcases k with k | i | i <;> rcases k' with k' | j | j
  · have hd' : k = k' := hd
    rw [hd']
  · cases hs
  · cases hs
  · cases hs
  · rw [sendS_inj (SemLoc.dma.inj hs)]
  · exact absurd (SemLoc.dma.inj hs) (sendS_ne_recvS i j)
  · cases hs
  · exact absurd (SemLoc.dma.inj hs).symm (sendS_ne_recvS j i)
  · rw [recvS_inj (SemLoc.dma.inj hs)]
def ringToks : Finset (GSem nD τ sig × ℕ × Fin 15) := Finset.univ.map ⟨tokOf, tokOf_injective⟩

def u₀ : UU :=
  (initOf (Pipeline.cells cfgs cellOf_inj) (Pipeline.launchToks cfgs cellOf_inj), initOf ringCells ringToks)

/-- The duty tokens of device `c`'s own cells; -/
def toks (c : Dev nD) : sProp 𝕄 :=
  iprop((bigSep Finset.univ fun k => dutyTok ER (barCell c) 0 k) ∗ (bigSep Finset.univ fun j => dutyTok ER (sendCell c j) 0 0)
    ∗ bigSep Finset.univ fun j => dutyTok ER (recvCell c j) 0 0)
/-- of the duties device `c` pays. -/
def payToks (c : Dev nD) : sProp 𝕄 :=
  iprop((bigSep Finset.univ fun j => dutyTok ER (barCell (nxt c j)) 0 j.rev)
    ∗ (bigSep Finset.univ fun j => dutyTok ER (recvCell (nxt c j) j) 0 0) ∗ (bigSep Finset.univ fun j => dutyTok ER (sendCell c j) 0 0))

/-- What the launch gives device `c` first, and what it has once the cells' invariants are allocated. -/
def G (c : Dev nD) : sProp 𝕄 :=
  iprop((bigSep Finset.univ fun k : CI => roundState ER (ringRd m ρ) (kcell (c, k)) 0)
    ∗ (bigSep Finset.univ fun k : CI => iprop(atPos ER (kcell (c, k)) 0 ∅ 0 ∗ reached ER (kcell (c, k)) 0)) ∗ toks c)
def G' (c : Dev nD) : sProp 𝕄 := iprop(∃ K, ghost m ρ K c)

omit [FloatOps F] in
theorem bigSep_CI (Φ : CI → sProp 𝕄) : bigSep Finset.univ Φ
    = iprop(Φ (.inl ()) ∗ (bigSep Finset.univ fun j => Φ (.inr (.inl j))) ∗ bigSep Finset.univ fun j => Φ (.inr (.inr j))) := by
  rw [bigSep_univ_sum, bigSep_univ_sum, bigSep_univ_of_subsingleton ()]; rfl

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : CI => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum, bigSep_univ_sum]; rfl
  iintro HX
  imod (Rounds.fund ER (ringRd m ρ) ringCells ringToks) $$ HX with ⟨Hst, Hr, Hat, Htok⟩
  imodintro
  ihave Hst' := (Entails.of_eq (hX fun g => roundState ER (ringRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem ownSems0_eq (c : Dev nD) : (Pipeline.ownSems0 (Ix := Unit) (Name := ℕ) (U := UU) (Lvl := ℕ) (Val := Elt F) (τ := τ) osem c : sProp 𝕄)
    = iprop((bigSep Finset.univ fun j => semVal (sendCell c j) 0) ∗ bigSep Finset.univ fun j => semVal (recvCell c j) 0) := by
  unfold Pipeline.ownSems0; rw [bigSep_univ_sum]; rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- Every semaphore of the protocol at zero, cell by cell. -/
theorem sems_cells (c : Dev nD) :
    iprop(Pipeline.ownSems0 (Ix := Unit) (Name := ℕ) (U := UU) (Lvl := ℕ) (Val := Elt F) (τ := τ) osem c ∗ unscopedSems0 c) ⊢ (bigSep Finset.univ fun k : CI => semVal (kcell (c, k)) 0 : sProp 𝕄) := by
  rw [ownSems0_eq, unscopedSems0_eq, bigSep_CI]
  iintro ⟨⟨HS, HV⟩, HB⟩
  isplitl [HB]; · iexact HB
  isplitl [HS]; · iexact HS
  iexact HV

/-- Every cell of a device gets its invariant. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (ringRd m ρ) κ (kcell (c, k))))
          ∗ (bigSep Finset.univ fun k => iprop(atPos ER (kcell (c, k)) 0 ∅ 0 ∗ reached ER (kcell (c, k)) 0)) ∗ toks c) := by
  have halloc : iprop((bigSep Finset.univ fun k : CI => semVal (kcell (c, k)) 0) ∗ bigSep Finset.univ fun k : CI => roundState ER (ringRd m ρ) (kcell (c, k)) 0)
      ⊢ (|={Set.univ}=> bigSep Finset.univ fun k => iprop(∃ κ : ℕ, cellInv ER (ringRd m ρ) κ (kcell (c, k))) : sProp 𝕄) := by
    rw [← bigSep_sep']
    exact (bigSep_mono fun k _ => (Rounds.body_intro ER (ringRd m ρ) (kcell (c, k))).trans inv_alloc).trans (bigSep_fupd _ _)
  unfold G
  iintro ⟨Hos, Hus, Hst, Hat, Htok⟩
  ihave Hv := (sems_cells (F := F) c) $$ [Hos Hus]
  · isplitl [Hos] <;> iassumption
  imod halloc $$ [Hv Hst] with Hinv
  · isplitl [Hv] <;> iassumption
  imodintro
  isplitl [Hinv]; · iexact Hinv
  isplitl [Hat]; · iexact Hat
  iexact Htok

omit [FloatOps F] in
/-- A family indexed by device and peer number, each device's item taken by the device it is the peer of. -/
theorem around (Φ : Dev nD → Fin 15 → sProp 𝕄) :
    (bigSep Finset.univ fun c => bigSep Finset.univ fun j => Φ c j) = bigSep Finset.univ fun c => bigSep Finset.univ fun j => Φ (nxt c j) j := by
  rw [bigSep_univ_comm, bigSep_congr (s := Finset.univ) fun j _ => bigSep_univ_equiv (turn j) (fun c => Φ c j), bigSep_univ_comm]; rfl

omit [FloatOps F] in
/-- The duty tokens handed to the devices that pay the duties. -/
theorem toks_around : (bigSep Finset.univ fun c : Dev nD => (toks c : sProp 𝕄)) ⊢ bigSep Finset.univ fun c : Dev nD => payToks c := by
  have hb : (bigSep Finset.univ fun c : Dev nD => bigSep Finset.univ fun k => (dutyTok ER (barCell c) 0 k : sProp 𝕄))
      = bigSep Finset.univ fun c : Dev nD => bigSep Finset.univ fun j => dutyTok ER (barCell (nxt c j)) 0 j.rev := by
    rw [bigSep_congr (s := Finset.univ) fun (c : Dev nD) _ => bigSep_univ_equiv Fin.revPerm (fun k => (dutyTok ER (barCell c) 0 k : sProp 𝕄))]
    exact around fun c j => dutyTok ER (barCell c) 0 j.rev
  have hr := around (F := F) fun c j => dutyTok ER (recvCell c j) 0 0
  unfold toks payToks
  rw [bigSep_sep', bigSep_sep', bigSep_sep', bigSep_sep', hb, hr]
  iintro ⟨H1, H2, H3⟩
  isplitl [H1]; · iexact H1
  isplitl [H3]; · iexact H3
  iexact H2

/-- What stays with device `c` beside the records. -/
def linear (c : Dev nD) : sProp 𝕄 :=
  iprop((bigSep Finset.univ fun k : CI => atPos ER (kcell (c, k)) 0 ∅ 0) ∗ payToks c)

theorem ghost_intro (K : Dev nD × CI → ℕ) (c : Dev nD) : iprop(records m ρ K ∗ linear c) ⊢ G' m ρ c := by
  unfold linear payToks G' ghost
  rw [bigSep_CI]
  iintro ⟨Hrec, ⟨HaB, HaS, HaR⟩, Htb, Htr, Hts⟩
  iexists K
  isplitl [Hrec]; · iexact Hrec
  isplitl [HaB]; · iexact HaB
  isplitl [HaS]; · iexact HaS
  isplitl [HaR]; · iexact HaR
  isplitl [Htb]; · iexact Htb
  isplitl [Htr]; · iexact Htr
  iexact Hts

omit [FloatOps F] in
theorem with_records {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (ringRd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × CI => iprop(∃ κ : ℕ, cellInv ER (ringRd m ρ) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄))]
  have hlin : iprop((bigSep Finset.univ fun c : Dev nD => bigSep Finset.univ fun k : CI => (atPos ER (kcell (c, k)) 0 ∅ 0 : sProp 𝕄)) ∗ bigSep Finset.univ fun c => payToks c)
      ⊢ bigSep Finset.univ fun c : Dev nD => (linear c : sProp 𝕄) := by
    rw [← bigSep_sep']; exact Entails.of_eq rfl
  iintro ⟨HI, ⟨Hat, #HR⟩, Htok⟩
  ihave HK := (BI.bigSep_exists_pi Finset.univ (fun (ck : Dev nD × CI) (κ : ℕ) => (cellInv ER (ringRd m ρ) κ (kcell ck) : sProp 𝕄))) $$ HI
  icases HK with ⟨%K, #HI⟩
  ihave Htk := (toks_around (F := F)) $$ Htok
  iapply (with_records (R := records m ρ K) fun c _ => ghost_intro m ρ K c)
  isplitr
  · unfold records; isplitl; · iexact HI
    iexact HR
  · iapply hlin
    isplitl [Hat]; · iexact Hat
    iexact Htk

/-- The devices' cells allocated at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credits -/

theorem bar_eq_iff {a b : Dev nD} : barCell a = barCell b ↔ a = b :=
  ⟨fun h => congrArg (fun g : GSem nD τ sig => g.1.1) h, fun h => h ▸ rfl⟩
theorem recv_eq_iff {a b : Dev nD} {i j : Fin 15} : recvCell a i = recvCell b j ↔ a = b ∧ i = j :=
  ⟨fun h => ⟨congrArg (fun g : GSem nD τ sig => g.1.1) h, recvS_inj (SemLoc.dma.inj (congrArg Prod.snd h))⟩, fun h => by rw [h.1, h.2]⟩
theorem recv_ne_bar (a b : Dev nD) (i : Fin 15) : recvCell a i ≠ barCell b := fun h => by cases congrArg Prod.snd h

theorem nxt_eq_iff {d c : Dev nD} {j : Fin 15} : nxt d j = c ↔ d = prv c j :=
  ⟨fun h => by rw [← h, prv_nxt], fun h => by rw [h, nxt_prv]⟩

/-- What device `d` owes device `c`'s barrier cell, -/
theorem owed_bar (d c : Dev nD) : O₀ d (barCell c) () = ∑ j : Fin 15, if d = prv c j then 1 else 0 := by
  unfold O₀
  rw [Pi.add_apply, Finsupp.add_apply, owedR_apply, owedB_apply, upFrom_zero]
  rw [Finset.sum_eq_zero fun j _ => by rw [tallyAt_apply, if_neg fun h => recv_ne_bar _ _ _ h.1.symm], zero_add]
  refine Finset.sum_congr rfl fun j _ => ?_
  rw [tallyAt_apply]
  exact if_congr ⟨fun h => nxt_eq_iff.mp (bar_eq_iff.mp h.1).symm, fun h => ⟨(bar_eq_iff.mpr (nxt_eq_iff.mpr h)).symm, rfl⟩⟩ rfl rfl

/-- and its receive cell `i`. -/
theorem owed_recv (d c : Dev nD) (i : Fin 15) : O₀ d (recvCell c i) () = if d = prv c i then N else 0 := by
  unfold O₀
  rw [Pi.add_apply, Finsupp.add_apply, owedR_apply, owedB_apply, upFrom_zero]
  rw [Finset.sum_eq_zero (f := fun j => (tallyAt (barCell (nxt d j)) () 1 : CellTallies nD τ sig Unit) (recvCell c i) ())
    fun j _ => by rw [tallyAt_apply, if_neg fun h => recv_ne_bar _ _ _ h.1], add_zero]
  rw [Finset.sum_eq_single i (fun j _ hj => by rw [tallyAt_apply, if_neg fun h => hj (recv_eq_iff.mp h.1).2.symm])
    (fun h => absurd (Finset.mem_univ i) h), tallyAt_apply]
  exact if_congr ⟨fun h => nxt_eq_iff.mp (recv_eq_iff.mp h.1).1.symm, fun h => ⟨recv_eq_iff.mpr ⟨(nxt_eq_iff.mpr h).symm, rfl⟩, rfl⟩⟩ rfl rfl

theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm]
  rw [Finset.sum_congr rfl fun j _ => (Finset.sum_ite_eq' Finset.univ (prv c j) fun _ => 1).trans (if_pos (Finset.mem_univ _))]
  rfl

theorem launch_recv (c : Dev nD) (i : Fin 15) :
    tallyOn (recvCell c i) (launchCredit (Pipeline.owing O₀) 0 (recvCell c i)) = (tallyAt (recvCell c i) () N : CellTallies nD τ sig Unit) := by
  unfold tallyAt; refine congrArg _ (Finsupp.ext fun u => ?_); cases u
  rw [Pipeline.launchCredit_owing, Finsupp.single_eq_same, Finset.sum_congr rfl fun d _ => owed_recv d c i, Finset.sum_ite_eq' Finset.univ (prv c i) fun _ => N,
    if_pos (Finset.mem_univ _)]

def recvEmb : Fin 15 ↪ SemLoc sig := ⟨fun j => .dma (recvS j), fun _ _ h => recvS_inj (SemLoc.dma.inj h)⟩

omit [FloatOps F] in
theorem launch_creds (c : Dev nD) :
    (Pipeline.launchCred O₀ c : sProp 𝕄) ⊢ iprop(cred (tallyAt (barCell c) () 15) ∗ bigSep Finset.univ fun j => cred (tallyAt (recvCell c j) () N)) := by
  unfold Pipeline.launchCred
  rw [bigSep_univ_at _ (SemLoc.reg barS), launch_bar]
  refine sep_mono_right ?_
  refine (bigSep_subset (t := Finset.univ.map recvEmb) ?_).trans ?_
  · intro x hx
    obtain ⟨j, -, rfl⟩ := Finset.mem_map.mp hx
    exact Finset.mem_erase.mpr ⟨fun h => (by cases h), Finset.mem_univ _⟩
  · rw [bigSep_map]
    exact Entails.of_eq (bigSep_congr fun j _ => congrArg cred (launch_recv c j))

/-! ## The launch theorem's side conditions -/

/-- The array no window covers, at what it held at launch. -/
def spare (c : Dev nD) : sProp 𝕄 := ((c : Thread nD τ).loc main_arg1) ↦{fullShare} m ((c : Thread nD τ).loc main_arg1)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ spare m c) := by
  rw [Pipeline.unscopedRestP_none, show Pipeline.unscopedRest cfg0.spec c (fun b => m ((c : Thread nD τ).loc b)) = spare m c from unscopedRest0_eq c _]
  iintro ⟨Hsp, Hlev, Hcr, -, HG⟩
  ihave Hc := (launch_creds (F := F) c) $$ Hcr
  icases Hc with ⟨H1, HN⟩
  imodintro
  unfold start creds G'
  isplitr [Hsp]
  · isplitl [HG]; · iexact HG
    isplitl [H1]; · iexact H1
    isplitl [HN]; · iexact HN
    iexact Hlev
  · iexact Hsp

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scopedRest0_eq, ownSems0_eq, unscopedSems0_eq]
  unfold Φ₁
  iintro ⟨Hr, HzS, HzV, HzB⟩
  isplitl [HzB]; · iexact HzB
  isplitl [HzS HzV]
  · isplitl [HzS] <;> iassumption
  iexists (gath m ρ); iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- The contents of window `w`'s array on device `c` after the run. -/
def finalA (c : Dev nD) (w : Fin cfg0.W) : Buf (Elt F) ((cfg0.win w).arr.view.loc (c : Thread nD τ)) := (dats m ρ 0 c).arrAt w cfg0.N

/-- What every final state satisfies. -/
def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg1) = m ((c : Thread nD τ).loc main_arg1)

theorem exit_read (c : Dev nD) (s' : Phys nD τ sig (Elt F)) :
    iprop(unscopedSems0 c ∗ spare m c ∗ SI s') ⊢ (|={Set.univ}=> iprop(⌜(∀ sm : SemLoc sig, sm.isScoped .tc = false → s'.mem.sem ((c.tc : Thread nD τ), sm) = 0)
      ∧ s'.mem.mem ((c : Thread nD τ).loc main_arg1) = m ((c : Thread nD τ).loc main_arg1)⌝ ∗ SI s') : sProp 𝕄) := by
  have h : iprop((bigSep (Finset.univ : Finset Unit) fun _ => (spare m c : sProp 𝕄)) ∗ SI s')
      ⊢ iprop(⌜∀ i ∈ (Finset.univ : Finset Unit), s'.mem.mem ((c : Thread nD τ).loc main_arg1) = m ((c : Thread nD τ).loc main_arg1)⌝ ∗ SI s') :=
    pointsTo_read_all (Finset.univ : Finset Unit) (fun _ => (c : Thread nD τ).loc main_arg1) (fun _ => m ((c : Thread nD τ).loc main_arg1)) s'
  rw [bigSep_univ_of_subsingleton ()] at h
  iintro ⟨Hu, Hs, HSI⟩
  ihave H := h $$ [Hs HSI]
  · isplitl [Hs] <;> iassumption
  icases H with ⟨%hm, HSI⟩
  imod (Pipeline.unscopedSems0_read (X := unscopedSems0 c) (c := c) fupd_intro s') $$ [Hu HSI] with ⟨%hs, HSI⟩
  · isplitl [Hu] <;> iassumption
  imodintro
  isplitr; · ipureintro; exact ⟨hs, hm () (Finset.mem_univ _)⟩
  iexact HSI

set_option maxRecDepth 8000 in
/-- On sixteen devices, for any float values, from any memory with zero counters: every weakly fair execution ends, and
    every final state has each device's window arrays at the computed contents, the remaining array as at launch and
    every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := spare m)
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg1) = m ((c : Thread nD τ).loc main_arg1))
    (hY := exit_read m)
    (hQ := fun _ h hs => ⟨fun c => ⟨(h c).1, (h c).2.2.2⟩, sem_eq_zero hs fun c => (h c).2.2.1⟩)

end Cert.KernelIdeal.Run

end
-- ==== Proof.RunKernelIdeal.Read.lean ====
/-
# The run, read at the arrays

The staged arrays are the argument arrays, the result array ends as the body left its staging buffer, and the argument
arrays end as they were.
-/
module

public import proofs.«01_k».proof.Proof.RunKernelIdeal.Launch

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The staged tokens are the token array; -/
theorem xstg_eq (c : Dev nD) : xstg m ρ c = m ((c : Thread nD τ).loc main_arg0) := by
  have hz : (fun a => (win0_0.index (0 : Fin 1)) a * main_arg0.ty.shape.size a) = fun _ => 0 := funext fun a => by fin_cases a <;> decide
  exact Memref.read_access_unit_zero (Elt F) main_arg0 hz (fun a => by fin_cases a <;> decide) _
/-- the staged routes are the route array; -/
theorem estg_eq (c : Dev nD) : estg m ρ c = m ((c : Thread nD τ).loc main_arg2) := by
  have hz : (fun a => (win0_1.index (0 : Fin 1)) a * main_arg2.ty.shape.size a) = fun _ => 0 := funext fun a => by fin_cases a <;> decide
  exact Memref.read_access_unit_zero (Elt F) main_arg2 hz (fun a => by fin_cases a <;> decide) _
/-- the staged weights are the device's four experts' weights. -/
theorem wstg_eq (c : Dev nD) : wstg m ρ c = m ((c : Thread nD τ).loc main_arg3) := by
  have hz : (fun a => (win0_2.index (0 : Fin 1)) a * main_arg3.ty.shape.size a) = fun _ => 0 := funext fun a => by fin_cases a <;> decide
  exact Memref.read_access_unit_zero (Elt F) main_arg3 hz (fun a => by fin_cases a <;> decide) _

/-- The result array ends at what the body left in its staging buffer. -/
theorem finalA_out (c : Dev nD) : finalA m ρ c (3 : Fin 4) = outAt m ρ c := by
  have hz : (fun a => (win0_3.index (0 : Fin 1)) a * main_v1.ty.shape.size a) = fun _ => 0 := funext fun a => by fin_cases a <;> decide
  have hr := fun f => Memref.read_access_unit_zero (Elt F) main_v1 hz (fun a => by fin_cases a <;> decide) f
  have ho : (win0_3.blk (0 : Fin 1)).view.read (Elt F) (finalA m ρ c (3 : Fin 4)) = outAt m ρ c := by
    unfold finalA
    rw [show cfg0.N = ((0 : Fin 1) : Fin cfg0.N).val + 1 from rfl, (dats m ρ 0 c).arrAt_succ (3 : Fin 4) (0 : Fin 1)]
    rw [show (cfg0.win (3 : Fin 4)).flush (0 : Fin 1) = true from by decide, if_pos rfl]
    exact View.read_write_univ _ _
  exact (hr _).symm.trans ho

/-- Every run ends with each device's result array at the computed contents, its arguments as at launch and every
    semaphore counter zero. -/
theorem run_read : θ_run defs (onTc (τ := τ) (main (F := F))) (s₀ m ρ) (fun r => (∀ c : Dev nD,
      r.2.mem ((c.tc : Thread nD τ).loc main_v1) = outAt m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).1 3).trans (finalA_out m ρ c),
    ((h.1 c).1 0).trans ((dats m ρ 0 c).arrAt_in (0 : Fin 4) rfl _), (h.1 c).2,
    ((h.1 c).1 1).trans ((dats m ρ 0 c).arrAt_in (1 : Fin 4) rfl _), ((h.1 c).1 2).trans ((dats m ρ 0 c).arrAt_in (2 : Fin 4) rfl _)⟩, h.2⟩)
    (run_main m ρ)

end Cert.KernelIdeal.Run

end
-- ==== Proof.Value.Routes.lean ====
/-
# Where the tokens go

Of the tokens' expert numbers: how many tokens before token `i` go to the same expert, whether token `i` is kept, and
its slot in the gathered array. The kernel's integer payloads compute these, and two kept tokens never share a slot.
-/
module

public import proofs.«01_k».proof.Proof.Gen.KernelIdeal
public import proofs.«01_k».proof.Proof.Gen.KernelIdeal.Skeleton
public import Idealize.ShloMosaic.Lib.Pointwise
public import Idealize.ShloMosaic.Lib.WordCmp

@[expose] public section

noncomputable section

namespace Cert.KernelIdeal.Routes

open Cert.KernelIdeal Cert.KernelIdeal.Gen Idealize.ShloMosaic

/-! ## One-bit words as numbers -/

/-- A truth value, widened and read as a float, is one or zero. -/
theorem bit_float (p : Prop) [Decidable p] :
    (FloatOps.sitofp .f32 (BitVec.setWidth 32 (BitVec.ofBool (decide p))) : Ideal .f32) = if p then 1 else 0 := by
  show ((((BitVec.setWidth 32 (BitVec.ofBool (decide p))).toInt : ℤ) : ℝ) : EReal) = _
  by_cases h : p <;> simp [h]

theorem and_bits (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

theorem eq_bit {w : ℕ} (x y : BitVec w) : IntOp.cmpi .eq x y = BitVec.ofBool (decide (x = y)) := WordCmp.cmpi_eq_eq x y

theorem toInt_small {a : ℕ} (h : a < 2 ^ 31) : (BitVec.ofNat 32 a).toInt = a := by
  have hn : (BitVec.ofNat 32 a).toNat = a := by rw [BitVec.toNat_ofNat]; omega
  rw [WordCmp.toInt_eq_toNat_of_lt_half (by rw [hn]; exact h), hn]

theorem sge_bit {a b : ℕ} (ha : a < 2 ^ 31) (hb : b < 2 ^ 31) :
    IntOp.cmpi .sge (BitVec.ofNat 32 a) (BitVec.ofNat 32 b) = BitVec.ofBool (decide (b ≤ a)) := by
  rw [WordCmp.cmpi_sge_eq, toInt_small ha, toInt_small hb]; simp only [Int.ofNat_le]
theorem slt_bit {a b : ℕ} (ha : a < 2 ^ 31) (hb : b < 2 ^ 31) :
    IntOp.cmpi .slt (BitVec.ofNat 32 a) (BitVec.ofNat 32 b) = BitVec.ofBool (decide (a < b)) := by
  rw [WordCmp.cmpi_slt_eq, toInt_small ha, toInt_small hb]; simp only [Int.ofNat_lt]
theorem sle_bit {a b : ℕ} (ha : a < 2 ^ 31) (hb : b < 2 ^ 31) :
    IntOp.cmpi .sle (BitVec.ofNat 32 a) (BitVec.ofNat 32 b) = BitVec.ofBool (decide (a ≤ b)) := by
  rw [WordCmp.cmpi_sle_eq, toInt_small ha, toInt_small hb]; simp only [Int.ofNat_le]

/-- A small natural number, rounded to an integer word, is that number's word. -/
theorem float_word {n : ℕ} (h : n < 2 ^ 31) : FloatOps.fptosi (F := Ideal) (φ := .f32) 32 (n : EReal) = BitVec.ofNat 32 n := by
  show Ideal.fptosi 32 (n : EReal) = _
  have hn : (n : EReal) = (((n : ℝ)) : EReal) := by norm_cast
  rw [hn, Ideal.fptosi, Ideal.toIntClamped_coe, if_pos (Nat.cast_nonneg n), Int.floor_natCast]
  have : max (-((2 ^ (32 - 1) : ℕ) : ℤ)) (min (((2 ^ (32 - 1) : ℕ) : ℤ) - 1) (n : ℤ)) = n := by
    rw [min_eq_right (by push_cast; omega), max_eq_right (by push_cast; omega)]
  rw [this]; rfl

/-! ## The routes -/

/-- Token `i`'s expert number, as a word and as a number. -/
abbrev word (e : IVec S1024x1 32) (i : Fin 1024) : BitVec 32 := e (ix2 i 0)
def expert (e : IVec S1024x1 32) (i : Fin 1024) : ℕ := (word e i).toNat

/-- The tokens before token `i` that go to its expert; -/
def earlier (e : IVec S1024x1 32) (i : Fin 1024) : Finset (Fin 1024) := Finset.univ.filter fun k => word e k = word e i ∧ k.val < i.val
/-- how many they are; -/
def before (e : IVec S1024x1 32) (i : Fin 1024) : ℕ := (earlier e i).card
/-- token `i` is kept if they are fewer than twelve; -/
abbrev kept (e : IVec S1024x1 32) (i : Fin 1024) : Prop := before e i < 12
/-- its slot in the gathered array. -/
def slot (e : IVec S1024x1 32) (i : Fin 1024) : ℕ := 12 * expert e i + before e i

variable {e : IVec S1024x1 32}

theorem before_le (e : IVec S1024x1 32) (i : Fin 1024) : before e i ≤ 1024 :=
  (Finset.card_le_univ _).trans (by simp)

theorem word_of_expert {i k : Fin 1024} (h : expert e i = expert e k) : word e i = word e k := BitVec.eq_of_toNat_eq h

/-- Of two tokens of one expert the later has more before it. -/
theorem before_lt {i k : Fin 1024} (h : word e i = word e k) (hik : i.val < k.val) : before e i < before e k := by
  refine Finset.card_lt_card (Finset.ssubset_iff_of_subset ?_ |>.mpr ⟨i, ?_, ?_⟩)
  · intro t ht
    have ht := (Finset.mem_filter.mp ht).2
    exact Finset.mem_filter.mpr ⟨Finset.mem_univ _, ht.1.trans h, ht.2.trans hik⟩
  · exact Finset.mem_filter.mpr ⟨Finset.mem_univ _, h, hik⟩
  · intro hi; exact absurd (Finset.mem_filter.mp hi).2.2 (lt_irrefl _)

/-- Two kept tokens in one slot are one token. -/
theorem slot_inj {i k : Fin 1024} (hi : kept e i) (hk : kept e k) (h : slot e i = slot e k) : i = k := by
  unfold kept at hi hk; unfold slot at h
  have he : expert e i = expert e k := by omega
  have hb : before e i = before e k := by omega
  have hw := word_of_expert he
  rcases lt_trichotomy i.val k.val with hlt | heq | hgt
  · exact absurd hb (before_lt hw hlt).ne
  · exact Fin.ext heq
  · exact absurd hb (before_lt hw.symm hgt).ne'

/-! ## The kernel's integer payloads -/

variable (hE : ∀ i, expert e i < 64)
include hE

/-- The running count of token `i`'s expert, token `i` counted. -/
theorem count_eq (i : Fin 1024) : k0_pay2 (F := Ideal) e (ix2 i 0) = ((before e i + 1 : ℕ) : EReal) := by
  pointwise [k0_pay2, k0_pay1]
  have hi : word e i = BitVec.ofNat 32 (expert e i) := by unfold expert; simp
  rw [Finset.sum_eq_single (⟨expert e i, hE i⟩ : Fin 64)]
  · rw [eq_bit, bit_float, if_pos hi, mul_one]
    have hset : (Finset.univ.filter fun k : Fin 1024 => k.val ≤ i.val ∧ word e k = word e i) = insert i (earlier e i) := by
      ext k
      simp only [Finset.mem_filter, Finset.mem_univ, true_and, Finset.mem_insert, earlier]
      constructor
      · rintro ⟨h1, h2⟩
        rcases h1.lt_or_eq with h | h
        · exact Or.inr ⟨h2, h⟩
        · exact Or.inl (Fin.ext h)
      · rintro (rfl | ⟨h1, h2⟩)
        · exact ⟨le_refl _, rfl⟩
        · exact ⟨h2.le, h1⟩
    have hni : i ∉ earlier e i := fun h => absurd (Finset.mem_filter.mp h).2.2 (lt_irrefl _)
    have hcard : (Finset.univ.filter fun k : Fin 1024 => k.val ≤ i.val ∧ word e k = word e i).card = before e i + 1 := by
      rw [hset, Finset.card_insert_of_notMem hni]; rfl
    rw [← hcard, ← Finset.sum_boole]
    refine Finset.sum_congr rfl fun k _ => ?_
    have hk := k.isLt; have hi' := i.isLt
    rw [sge_bit (by omega) (by omega), eq_bit, bit_float, bit_float, ← hi]
    by_cases h1 : k.val ≤ i.val <;> by_cases h2 : word e k = word e i <;> simp [h1, h2]
  · intro l _ hl
    rw [eq_bit, bit_float, if_neg, mul_zero]
    intro h
    apply hl; apply Fin.ext
    have hl' := l.isLt
    have := congrArg BitVec.toNat h
    rw [BitVec.toNat_ofNat, Nat.mod_eq_of_lt (by omega)] at this
    exact this.symm
  · intro h; exact absurd (Finset.mem_univ _) h

theorem keep_eq (i : Fin 1024) : k0_pay4 (F := Ideal) (k0_pay2 (F := Ideal) e) (ix2 i 0) = BitVec.ofBool (decide (kept e i)) := by
  have hb := before_le e i
  pointwise [k0_pay4, k0_pay3]
  rw [count_eq hE i, float_word (by omega), show (12#32 : BitVec 32) = BitVec.ofNat 32 12 from rfl, sle_bit (by omega) (by omega)]
  refine congrArg _ (decide_eq_decide.mpr ?_); unfold kept; omega

theorem slot_eq (i : Fin 1024) : k0_pay5 (F := Ideal) (k0_pay1 (F := Ideal) e) (k0_pay2 (F := Ideal) e) (ix2 i 0) = BitVec.ofNat 32 (slot e i) := by
  have hb := before_le e i
  have hx := hE i
  pointwise [k0_pay5, k0_pay3, k0_pay1]
  rw [count_eq hE i, float_word (by omega)]
  apply BitVec.eq_of_toNat_eq
  show (e (ix2 i 0) * 12#32 + BitVec.ofNat 32 (before e i + 1) - 1#32).toNat = _
  have hw : (e (ix2 i 0)).toNat = expert e i := rfl
  unfold slot
  simp only [BitVec.toNat_sub, BitVec.toNat_add, BitVec.toNat_mul, BitVec.toNat_ofNat, hw]
  omega

theorem slot_lt {i : Fin 1024} (h : kept e i) : slot e i < 768 := by
  have := hE i; unfold kept at h; unfold slot; omega
theorem slot_small (i : Fin 1024) : slot e i < 2000 := by
  have := hE i; have := before_le e i; unfold slot; omega

end Cert.KernelIdeal.Routes
-- ==== Proof.Value.Gathered.lean ====
/-
# The gathered array and the result

Row `s` of the gathered array is the token in slot `s` times the weights of the slot's expert; row `i` of the result is
the gathered row of token `i`'s slot if the token is kept, and zero otherwise.
-/
module

public import proofs.«01_k».proof.Proof.Value.Routes
public import proofs.«01_k».proof.Proof.RunKernelIdeal.Read
public import Idealize.ShloMosaic.Lib.LayoutAt

@[expose] public section

noncomputable section

namespace Cert.KernelIdeal.Routes

open Cert.KernelIdeal Cert.KernelIdeal.Gen Cert.KernelIdeal.Run Idealize.ShloMosaic
open Idealize.ShloMosaic.TcCoe

variable {e : IVec S1024x1 32}

/-- The token in slot `s`, or zero if the slot is empty. -/
def picked (e : IVec S1024x1 32) (x : FVec Ideal S1024x512 .bf16) (s : ℕ) (d : Fin 512) : EReal :=
  ∑ t : Fin 1024, if slot e t = s ∧ kept e t then x (ix2 t d) else 0

theorem bit_mul (p : Prop) [Decidable p] (a : EReal) : (if p then (1 : EReal) else 0) * a = if p then a else 0 := by
  by_cases h : p <;> simp [h]

theorem picked_slot (x : FVec Ideal S1024x512 .bf16) {i : Fin 1024} (hi : kept e i) (d : Fin 512) :
    picked e x (slot e i) d = x (ix2 i d) := by
  unfold picked
  rw [Finset.sum_eq_single i]
  · rw [if_pos ⟨rfl, hi⟩]
  · intro t _ ht
    exact if_neg fun h => ht (slot_inj h.2 hi h.1)
  · intro h; exact absurd (Finset.mem_univ _) h

/-- The rows a device picks for its experts: the tokens in its forty-eight slots. -/
theorem pick_eq (hE : ∀ i, expert e i < 64) (c : ℕ) (hc : c < 16) (x : FVec Ideal S1024x512 .bf16) (i : Fin 48) (d : Fin 512) :
    k0_pay6 (F := Ideal) (BitVec.ofNat 32 c) (k0_pay1 (F := Ideal) e) (k0_pay2 (F := Ideal) e) x (ix2 i d) = picked e x (48 * c + i.val) d := by
  pointwise [k0_pay6]
  unfold picked
  refine Finset.sum_congr rfl fun t _ => ?_
  have hs := slot_small hE t
  have hi := i.isLt
  rw [slot_eq hE t, keep_eq hE t, eq_bit, and_bits, bit_float, bit_mul]
  refine if_congr (and_congr_left' ?_) rfl rfl
  show BitVec.ofNat 32 (slot e t) - BitVec.ofNat 32 c * 48#32 = BitVec.ofNat 32 i.val ↔ _
  rw [← BitVec.toNat_inj]
  simp only [BitVec.toNat_sub, BitVec.toNat_mul, BitVec.toNat_ofNat]
  omega

theorem mask_eq {i lo hi : ℕ} (h1 : i < 2 ^ 31) (h2 : lo < 2 ^ 31) (h3 : hi < 2 ^ 31) :
    (FloatOps.sitofp .f32 (BitVec.setWidth 32 (IntOp.andi (IntOp.cmpi .sge (BitVec.ofNat 32 i) (BitVec.ofNat 32 lo))
      (IntOp.cmpi .slt (BitVec.ofNat 32 i) (BitVec.ofNat 32 hi)))) : Ideal .f32) = if lo ≤ i ∧ i < hi then 1 else 0 := by
  rw [sge_bit h1 h2, slt_bit h1 h3, and_bits, bit_float]

theorem masked_sum (p : Prop) [Decidable p] (a w : Fin 512 → EReal) :
    (∑ d, a d * (if p then 1 else 0) * w d) = if p then ∑ d, a d * w d else 0 := by
  by_cases h : p <;> simp [h]

/-- The device's rows: row `i` is its picked token times the weights of expert `i / 12` of the device's four. -/
theorem rows_eq (y : BitVec 32) (v65 : IVec S1024x1 32) (v82 : FVec Ideal S1024x1 .f32) (x : FVec Ideal S1024x512 .bf16)
    (W : Fin 4 → FVec Ideal S1x512x1024 .bf16) (i : Fin 48) (j : Fin 1024) :
    k0_pay10 (F := Ideal) (k0_pay9 (k0_pay6 y v65 v82 x) (iota .tc S48x1 32 [0] iota_S48x1_d0_w32) (k0_pay7 y v65 v82 x (W 0)) k0_pay8 (W 1) (W 2) (W 3)) (ix2 i j)
      = ∑ d : Fin 512, k0_pay6 (F := Ideal) y v65 v82 x (ix2 i d) * W ⟨i.val / 12, by omega⟩ (ix3 0 d j) := by
  have hi := i.isLt
  have m0 := mask_eq (i := i.val) (lo := 0) (hi := 12) (by omega) (by omega) (by omega)
  have m1 := mask_eq (i := i.val) (lo := 12) (hi := 24) (by omega) (by omega) (by omega)
  have m2 := mask_eq (i := i.val) (lo := 24) (hi := 36) (by omega) (by omega) (by omega)
  have m3 := mask_eq (i := i.val) (lo := 36) (hi := 48) (by omega) (by omega) (by omega)
  pointwise [k0_pay10, k0_pay9, k0_pay7, k0_pay8]
  rw [m0, m1, m2, m3, masked_sum, masked_sum, masked_sum, masked_sum]
  rcases (by omega : i.val / 12 = 0 ∨ i.val / 12 = 1 ∨ i.val / 12 = 2 ∨ i.val / 12 = 3) with h | h | h | h
  · rw [if_pos (by omega), if_neg (by omega), if_neg (by omega), if_neg (by omega)]
    simp only [h, add_zero]; rfl
  · rw [if_neg (by omega), if_pos (by omega), if_neg (by omega), if_neg (by omega)]
    simp only [h, add_zero, zero_add]; rfl
  · rw [if_neg (by omega), if_neg (by omega), if_pos (by omega), if_neg (by omega)]
    simp only [h, add_zero, zero_add]; rfl
  · rw [if_neg (by omega), if_neg (by omega), if_neg (by omega), if_pos (by omega)]
    simp only [h, add_zero, zero_add]; rfl

/-! ## The device's share of the weights -/

theorem myw_eq : ∀ c : Dev nD, myw c = BitVec.ofNat 32 c.val := by decide

/-- Expert `k` of device `c`'s four is expert `4 c + k`. -/
theorem share_at (c : Dev nD) (W : (⟨3, ![64, 512, 1024]⟩ : Shape).Idx → EReal) (k : Fin 4) (d : Fin 512) (j : Fin 1024) (q : Fin 64) (hq : q.val = 4 * c.val + k.val) :
    Layout.block ⟨3, ![4, 512, 1024]⟩ ⟨3, ![64, 512, 1024]⟩ 0 16 c W (by decide) (ix3 k d j) = W (ix3 q d j) := by
  have T : Layout.Tiles (⟨3, ![4, 512, 1024]⟩ : Shape) ⟨3, ![64, 512, 1024]⟩ 0 16 := by decide
  show W (T.idx c (ix3 k d j)) = _
  congr 1
  refine funext fun b => Fin.ext ?_
  match b with
  | ⟨0, h⟩ =>
    refine (T.idx_val_self c (ix3 k d j) ⟨0, h⟩ rfl).trans ?_
    show c.val * 4 + k.val = q.val
    omega
  | ⟨1, h⟩ => exact T.idx_val_of_ne c (ix3 k d j) ⟨1, h⟩ Nat.one_ne_zero
  | ⟨2, h⟩ => exact T.idx_val_of_ne c (ix3 k d j) ⟨2, h⟩ (Nat.succ_ne_zero 1)

variable (m : (ℓ : Loc nD τ sig) → Buf (Elt Ideal) ℓ) (ρ : Dev nD → PrngReg)

theorem wload_at (c : Dev nD) (k : Fin 4) (d : Fin 512) (j : Fin 1024) : wload m ρ c k (ix3 0 d j) = (wstg m ρ c : S4x512x1024.Idx → EReal) (ix3 k d j) := by
  show (wstg m ρ c : S4x512x1024.Idx → EReal) (((wM : Memref sig .tc .vmem S4x512x1024 .bf16).view.slice (wRect k)).emb (ix3 0 d j)) = _
  have h := fun a => ValueKit.view_emb_slice_whole_unit_val cc0_stg2_0 ![k.val, 0, 0] S1x512x1024.size (by revert k; decide) (ix3 0 d j) a
  congr 1
  refine funext fun a => Fin.ext ((h a).trans ?_)
  match a with
  | ⟨0, _⟩ => rfl
  | ⟨1, _⟩ => exact Nat.zero_add _
  | ⟨2, _⟩ => exact Nat.zero_add _

/-! ## The gathered array -/

variable (x : FVec Ideal S1024x512 .bf16) (W : (⟨3, ![64, 512, 1024]⟩ : Shape).Idx → EReal)

/-- The devices' arrays: the same tokens and routes on each, and each its block of the weights. -/
structure Held : Prop where
  tok : ∀ c : Dev nD, m ((c : Thread nD τ).loc main_arg0) = x
  route : ∀ c : Dev nD, m ((c : Thread nD τ).loc main_arg2) = e
  weight : ∀ c : Dev nD, m ((c : Thread nD τ).loc main_arg3) = Layout.block ⟨3, ![4, 512, 1024]⟩ ⟨3, ![64, 512, 1024]⟩ 0 16 c W

variable {m x W}

theorem gath_at (H : Held (e := e) m x W) (hE : ∀ i, expert e i < 64) (s : Fin 768) (j : Fin 1024) :
    (gath m ρ : S768x1024.Idx → EReal) (ix2 s j) = ∑ d : Fin 512, picked e x s.val d * W (ix3 ⟨s.val / 12, by omega⟩ d j) := by
  have hs := s.isLt
  let c : Dev nD := ownerOf (ix2 s j)
  have hc : c.val = s.val / 48 := rfl
  have hc16 : c.val < 16 := c.isLt
  have hloc : locOf (ix2 s j) = ix2 (⟨s.val % 48, by omega⟩ : Fin 48) j := by
    refine funext fun a => ?_
    match a with
    | ⟨0, _⟩ => rfl
    | ⟨1, _⟩ => rfl
  have hx : xstg m ρ c = x := (xstg_eq m ρ c).trans (H.tok c)
  have he : estg m ρ c = e := (estg_eq m ρ c).trans (H.route c)
  have hw : wstg m ρ c = _ := (wstg_eq m ρ c).trans (H.weight c)
  show blockOf m ρ c (locOf (ix2 s j)) = _
  rw [hloc]
  unfold blockOf
  rw [rows_eq _ _ _ _ (wload m ρ c), he, hx, myw_eq]
  refine Finset.sum_congr rfl fun d _ => ?_
  rw [pick_eq hE c.val hc16, wload_at, hw]
  rw [share_at c W _ d j ⟨s.val / 12, by omega⟩ (by show s.val / 12 = 4 * c.val + s.val % 48 / 12; omega)]
  rw [show 48 * c.val + s.val % 48 = s.val by omega]

/-! ## The result -/

/-- Combining: row `i` of the result is the row of a gathered array in token `i`'s slot, if the token is kept. -/
theorem combine_at (hE : ∀ i, expert e i < 64) (g : FVec Ideal S768x1024 .bf16) (i j : Fin 1024) :
    k0_pay12 (F := Ideal) (k0_pay11 (F := Ideal) (k0_pay4 (F := Ideal) (k0_pay2 (F := Ideal) e)) (k0_pay5 (F := Ideal) (k0_pay1 (F := Ideal) e) (k0_pay2 (F := Ideal) e))) g (ix2 i j)
      = ∑ s : Fin 768, if slot e i = s.val ∧ kept e i then g (ix2 s j) else 0 := by
  pointwise [k0_pay12, k0_pay11]
  refine Finset.sum_congr rfl fun s _ => ?_
  have hs := s.isLt
  have hsl := slot_small hE i
  rw [slot_eq hE i, keep_eq hE i, eq_bit, and_bits, bit_float, bit_mul]
  refine if_congr (and_congr_left' ?_) rfl rfl
  rw [← BitVec.toNat_inj, BitVec.toNat_ofNat, BitVec.toNat_ofNat, Nat.mod_eq_of_lt (by omega), Nat.mod_eq_of_lt (by omega)]

/-- Row `i` of the kernel's result, on every device. -/
theorem out_at (H : Held (e := e) m x W) (hE : ∀ i, expert e i < 64) (c : Dev nD) (i j : Fin 1024) :
    (outAt m ρ c : S1024x1024.Idx → EReal) (ix2 i j)
      = if kept e i then ∑ d : Fin 512, x (ix2 i d) * W (ix3 ⟨expert e i, hE i⟩ d j) else 0 := by
  have he : estg m ρ c = e := (estg_eq m ρ c).trans (H.route c)
  unfold outAt
  rw [he]
  refine (combine_at hE (gath m ρ) i j).trans ?_
  by_cases hk : kept e i
  · rw [if_pos hk, Finset.sum_eq_single (⟨slot e i, slot_lt hE hk⟩ : Fin 768)]
    · rw [if_pos ⟨rfl, hk⟩, gath_at ρ H hE]
      refine Finset.sum_congr rfl fun d _ => ?_
      rw [picked_slot x hk]
      have hq : slot e i / 12 = expert e i := by unfold kept at hk; unfold slot; omega
      congr 3
      exact Fin.ext hq
    · intro s _ hs
      exact if_neg fun h => hs (Fin.ext h.1.symm)
    · intro h; exact absurd (Finset.mem_univ _) h
  · rw [if_neg hk]
    exact Finset.sum_eq_zero fun s _ => if_neg fun h => hk h.2

end Cert.KernelIdeal.Routes
-- ==== Proof.Value.Reference.lean ====
/-
# The reference at an index

The reference's result at row `i` and column `j`: the token times its expert's weights if the token is kept, and zero
otherwise. The reference counts the earlier tokens of the same expert by words, takes each token's weights by a gather,
and multiplies.
-/
module

public import proofs.«01_k».proof.Proof.Gen.ReferenceIdeal
public import proofs.«01_k».proof.Proof.Gen.Pre_experts_exist_KernelIdeal
public import proofs.«01_k».proof.Proof.Value.Routes
public import Idealize.ShloMosaic.Lib.Pointwise
public import Idealize.ShloMosaic.Lib.IndicatorCount
public import Idealize.ShloMosaic.Lib.ReduceAll

@[expose] public section

noncomputable section

namespace Cert.ReferenceIdeal.Routes

open Cert.ReferenceIdeal Cert.ReferenceIdeal.Gen Idealize.ShloMosaic
open Cert.KernelIdeal.Routes (word expert earlier before kept before_le eq_bit and_bits slt_bit toInt_small)

/-! ## The precondition -/

/-- A route the precondition admits is an expert number. -/
theorem expert_of_pre {x : FVec Ideal Cert.KernelIdeal.S1024x512 .bf16} {r : FVec Ideal Cert.KernelIdeal.S512x64 .bf16}
    {e : IVec Cert.KernelIdeal.S1024x1 32} {w : FVec Ideal Cert.KernelIdeal.S4x512x1024 .bf16}
    (h : Cert.Pre_experts_exist_KernelIdeal.fn (F := Ideal) x r e w = fun _ => 1#1) (i : Fin 1024) : expert e i < 64 := by
  haveI : Subsingleton Cert.Pre_experts_exist_KernelIdeal.S_.Idx := ⟨fun a b => funext fun d => d.elim0⟩
  have hb := Host.reduce_andi_all _ _ _ _ ix0 (congrFun h ix0) (ix2 i 0)
  change IntOp.andi (IntOp.cmpi .sge (word e i) 0#32) (IntOp.cmpi .slt (word e i) 64#32) = 1#1 at hb
  rw [WordCmp.cmpi_sge_eq, WordCmp.cmpi_slt_eq, and_bits] at hb
  have hd : (0#32).toInt ≤ (word e i).toInt ∧ (word e i).toInt < (64#32).toInt := by
    by_contra hn
    rw [decide_eq_false hn] at hb
    exact absurd hb (by decide)
  have h0 : (0#32).toInt = 0 := by decide
  have h64 : (64#32).toInt = 64 := by decide
  rw [h0, h64] at hd
  have hlt := (word e i).isLt
  have ht := BitVec.toInt_eq_toNat_cond (word e i)
  unfold expert
  split at ht <;> omega

/-! ## The reference's parts -/

variable {e : IVec S1024x1 32}

/-- A small word, read signed, is its number. -/
theorem toInt_word {i : Fin 1024} (h : expert e i < 64) : (word e i).toInt.toNat = expert e i := by
  rw [WordCmp.toInt_eq_toNat_of_lt_half (lt_trans h (by decide))]; rfl

/-- The gather takes, for token `i`, the weights of its expert. -/
theorem gather_at (W : FVec Ideal S64x512x1024 .f32) (idx : IVec S1024x1 32) (i : Fin 1024) (d : Fin 512) (j : Fin 1024) :
    Host.gather gather_S64x512x1024_S1024x1_S1024x512x1024_12_0_n_n_0_1_15121024 W idx (ix3 i d j)
      = W (ix3 ⟨min (idx (ix2 i 0)).toInt.toNat 63, by omega⟩ d j) := by
  unfold Host.gather
  congr 1
  funext a
  refine Fin.ext ?_
  show GatherDims.start gather_S64x512x1024_S1024x1_S1024x512x1024_12_0_n_n_0_1_15121024 (ix3 i d j) idx a
    + GatherDims.batchCoord gather_S64x512x1024_S1024x1_S1024x512x1024_12_0_n_n_0_1_15121024 (ix3 i d j) a
    + GatherDims.offCoord gather_S64x512x1024_S1024x1_S1024x512x1024_12_0_n_n_0_1_15121024 (ix3 i d j) a = _
  rw [GatherDims.batchCoord_eq_zero _ _ _ (List.not_mem_nil)]
  have ha : a = (0 : Fin 3) ∨ a = (1 : Fin 3) ∨ a = (2 : Fin 3) := by
    match a with
    | ⟨0, _⟩ => exact Or.inl rfl
    | ⟨1, _⟩ => exact Or.inr (Or.inl rfl)
    | ⟨2, _⟩ => exact Or.inr (Or.inr rfl)
  unfold GatherDims.start
  rcases ha with rfl | ha
  · rw [GatherDims.offCoord_eq_zero _ _ _ (fun h => ((GatherDims.mem_sKept _ _).mp h).1 (List.mem_singleton.mpr rfl))]
    rw [dif_pos (show (0 : Fin 3) ∈ gather_S64x512x1024_S1024x1_S1024x512x1024_12_0_n_n_0_1_15121024.startIndexMap
      from List.mem_singleton.mpr rfl)]
    simp only [Nat.add_zero]
    have hsi : ∀ q, GatherDims.siIdx gather_S64x512x1024_S1024x1_S1024x512x1024_12_0_n_n_0_1_15121024 (ix3 i d j) ⟨0, q⟩
        = ix2 i 0 := by
      intro q; funext b; refine Fin.ext ?_
      match b with
      | ⟨0, _⟩ => rfl
      | ⟨1, _⟩ => rfl
    exact congrArg (fun q => min (idx q).toInt.toNat 63) (hsi _)
  · have hn : a ∉ gather_S64x512x1024_S1024x1_S1024x512x1024_12_0_n_n_0_1_15121024.startIndexMap := by
      rcases ha with rfl | rfl <;> exact fun h => absurd (List.mem_singleton.mp h) (by decide)
    have hk : a ∈ gather_S64x512x1024_S1024x1_S1024x512x1024_12_0_n_n_0_1_15121024.sKept :=
      (GatherDims.mem_sKept _ _).mpr ⟨hn, List.not_mem_nil⟩
    rw [dif_neg hn]
    unfold GatherDims.offCoord
    rw [dif_pos hk]
    rcases ha with rfl | rfl <;> exact Nat.zero_add _

/-- The words the reference compares with the capacity: how many earlier tokens go to the token's expert. -/
def counts (e : IVec S1024x1 32) : IVec S1024 32 :=
  Host.reduce IntOp.addi (extui 32 (andi (cmpi .eq (broadcastInDim S1024x1024 ![0, 1] bcast_S1x1024_S1024x1024_0_1 (broadcastInDim S1x1024 ![1] bcast_S1024_S1x1024_1 (shapeCast _ e shapeCasts_S1024x1_S1024))) (broadcastInDim S1024x1024 ![0, 1] bcast_S1024x1_S1024x1024_0_1 (broadcastInDim S1024x1 ![0] bcast_S1024_S1024x1_0 (shapeCast _ e shapeCasts_S1024x1_S1024)))) (cmpi .slt (broadcastInDim S1024x1024 ![0, 1] bcast_S1x1024_S1024x1024_0_1 (broadcastInDim S1x1024 ![1] bcast_S1024_S1x1024_1 (iotaInDim S1024 32 0))) (broadcastInDim S1024x1024 ![0, 1] bcast_S1024x1_S1024x1024_0_1 (broadcastInDim S1024x1 ![0] bcast_S1024_S1024x1_0 (iotaInDim S1024 32 0))))) natLt_1_32) (constantI S_ 32 0#32) reducesTo_S1024x1024_S1024_d1 h_S_

theorem counts_at (i : Fin 1024) : counts e (ix1 i) = BitVec.ofNat 32 (before e i) := by
  pointwise [counts]
  rw [IndicatorCount.fold_addi_setWidth_eq_card]
  congr 1
  unfold before earlier
  congr 1
  refine Finset.filter_congr fun k _ => ?_
  rw [eq_bit, slt_bit (by omega) (by omega), and_bits]
  by_cases hp : word e k = word e i ∧ k.val < i.val
  · rw [decide_eq_true hp]; exact ⟨fun _ => hp, fun _ => rfl⟩
  · rw [decide_eq_false hp]; exact ⟨fun h => absurd h (by decide), fun h => absurd h hp⟩

/-- Each token times its own weights. -/
def product (x : FVec Ideal S1024x512 .bf16) (e : IVec S1024x1 32) (W : FVec Ideal S64x512x1024 .bf16) : FVec Ideal S1024x1024 .f32 :=
  Host.dotGeneral dot_S1024x512_S1024x512x1024_S1024x1024_1_1_n_2_0_0 none (extf .f32 x bitsLt_bf16_f32) (Host.gather gather_S64x512x1024_S1024x1_S1024x512x1024_12_0_n_n_0_1_15121024 (extf .f32 W bitsLt_bf16_f32) (broadcastInDim S1024x1 ![0] bcast_S1024_S1024x1_0 (shapeCast _ e shapeCasts_S1024x1_S1024)))

/-- The product of the tokens and any weights of their own. -/
theorem dot_at (x : FVec Ideal S1024x512 .bf16) (w : FVec Ideal S1024x512x1024 .f32) (i j : Fin 1024) :
    Host.dotGeneral (F := Ideal) dot_S1024x512_S1024x512x1024_S1024x1024_1_1_n_2_0_0 none (extf .f32 x bitsLt_bf16_f32) w (ix2 i j)
      = ∑ d : Fin 512, (x (ix2 i d) : EReal) * (w (ix3 i d j) : EReal) := by
  pointwise []

/-- Reshaped to a row and back, the routes are themselves. -/
theorem routes_at (i : Fin 1024) :
    (broadcastInDim S1024x1 ![0] bcast_S1024_S1024x1_0 (shapeCast S1024 e shapeCasts_S1024x1_S1024)) (ix2 i 0) = word e i := by
  pointwise []

theorem product_at (x : FVec Ideal S1024x512 .bf16) (W : FVec Ideal S64x512x1024 .bf16) (hE : ∀ i, expert e i < 64) (i j : Fin 1024) :
    product x e W (ix2 i j) = ∑ d : Fin 512, (x (ix2 i d) : EReal) * (W (ix3 ⟨expert e i, hE i⟩ d j) : EReal) := by
  unfold product
  rw [dot_at]
  refine Finset.sum_congr rfl fun d _ => ?_
  rw [gather_at]
  congr 1
  show W _ = W _
  congr 2
  refine Fin.ext ?_
  show min _ 63 = expert e i
  rw [routes_at, toInt_word (hE i)]
  have := hE i
  omega

/-- The reference's result. -/
def result (x : FVec Ideal S1024x512 .bf16) (e : IVec S1024x1 32) (W : FVec Ideal S64x512x1024 .bf16) : FVec Ideal S1024x1024 .f32 :=
  select (broadcastInDim S1024x1024 ![0, 1] bcast_S1024x1_S1024x1024_0_1 (broadcastInDim S1024x1 ![0] bcast_S1024_S1024x1_0 (cmpi .slt (counts e) (broadcastInDim S1024 ![] bcast_S_S1024 (constantI S_ 32 12#32))))) (product x e W) (broadcastInDim S1024x1024 ![] bcast_S_S1024x1024 (id (constant S_ .f32 0x00000000#32)))

theorem mask_at (c : IVec S1024 32) (p : FVec Ideal S1024x1024 .f32) (i j : Fin 1024) :
    (select (broadcastInDim S1024x1024 ![0, 1] bcast_S1024x1_S1024x1024_0_1 (broadcastInDim S1024x1 ![0] bcast_S1024_S1024x1_0 (cmpi .slt c (broadcastInDim S1024 ![] bcast_S_S1024 (constantI S_ 32 12#32))))) p (broadcastInDim S1024x1024 ![] bcast_S_S1024x1024 (id (constant S_ .f32 0x00000000#32))) : FVec Ideal S1024x1024 .f32) (ix2 i j)
      = Scalar.select (IntOp.cmpi .slt (c (ix1 i)) 12#32) (p (ix2 i j)) (0 : EReal) := by
  pointwise []
  congr 1
  show Ideal.ofBits .f32 0x00000000#32 = 0
  exact Ideal.ofBits_zero_f32

/-- The reference's result at row `i` and column `j`. -/
theorem result_at (x : FVec Ideal S1024x512 .bf16) (W : FVec Ideal S64x512x1024 .bf16) (hE : ∀ i, expert e i < 64) (i j : Fin 1024) :
    result x e W (ix2 i j) = if kept e i then ∑ d : Fin 512, (x (ix2 i d) : EReal) * (W (ix3 ⟨expert e i, hE i⟩ d j) : EReal) else 0 := by
  unfold result
  have hb := before_le e i
  rw [mask_at, counts_at, product_at x W hE, slt_bit (by omega) (by omega)]
  by_cases h : kept e i
  · rw [if_pos h, decide_eq_true h]; rfl
  · rw [if_neg h, decide_eq_false h]; rfl

end Cert.ReferenceIdeal.Routes

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_experts_exist_KernelIdeal
public import proofs.«01_k».proof.Proof.Gen.Pre_experts_exist_ReferenceIdeal
public import proofs.«01_k».proof.Proof.RunKernel.Read
public import proofs.«01_k».proof.Proof.RunKernelIdeal.Read
public import proofs.«01_k».proof.Proof.Value.Gathered
public import proofs.«01_k».proof.Proof.Value.Reference
public import Idealize.ShloMosaic.Adequacy
public import Idealize.ShloMosaic.Init

@[expose] public section

noncomputable section

namespace Cert.Proof

open Idealize.ShloMosaic Idealize.SL.Sem

/-- The kernel's frame, of the machine's words. -/
theorem frame_kernel : Cert.quiescent_Kernel := fun m ρ _ =>
  (θ_run Cert.Kernel.defs _ _).mono (fun _ h => ⟨fun c => (h.1 c).2, h.2⟩) (Cert.Kernel.Run.run_read (F := Bits) m ρ)

/-- The kernel's frame, of the extended reals. -/
theorem frame_ideal : Cert.quiescent_KernelIdeal := fun m ρ _ =>
  (θ_run Cert.KernelIdeal.defs _ _).mono (fun _ h => ⟨fun c => (h.1 c).2, h.2⟩) (Cert.KernelIdeal.Run.run_read (F := Ideal) m ρ)

theorem frame_ideal_pre : Cert.quiescent_KernelIdeal_pre_experts_exist_KernelIdeal := fun m ρ _ => frame_ideal m ρ trivial

/-- The reference's frame: it is a straight line of array operations, and it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference_pre : Cert.quiescent_ReferenceIdeal_pre_experts_exist_ReferenceIdeal := fun m ρ _ => frame_reference m ρ trivial

open Cert.KernelIdeal.Routes (expert Held out_at) in
/-- Every device's result is the reference's: both are, row by row, the token times its expert's weights if the token is
    kept, and zero otherwise. -/
theorem same_result : Cert.algebraic_KernelIdeal_ReferenceIdeal_pre_experts_exist_KernelIdeal := by
  intro m ρ m' ρ' hPre hArgs
  refine ⟨Cert.ReferenceIdeal.Routes.result
    (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3)), ?_, ?_⟩
  · have H : Held m
        (m' (((0 : Dev Cert.ReferenceIdeal.nD).tc : Thread Cert.ReferenceIdeal.nD Cert.ReferenceIdeal.τ).loc Cert.ReferenceIdeal.main_arg0))
        (m' (((0 : Dev Cert.ReferenceIdeal.nD).tc : Thread Cert.ReferenceIdeal.nD Cert.ReferenceIdeal.τ).loc Cert.ReferenceIdeal.main_arg3)) :=
      ⟨fun c => (hArgs c).1, fun c => (hArgs c).2.2.1, fun c => (hArgs c).2.2.2⟩
    have hE := Cert.ReferenceIdeal.Routes.expert_of_pre (hPre 0)
    rw [(hArgs 0).2.2.1] at hE
    refine (θ_run Cert.KernelIdeal.defs _ _).mono (fun r h c => ⟨(h.1 c).1.trans ?_, (h.1 c).2⟩)
      (Cert.KernelIdeal.Run.run_read (F := Ideal) m ρ)
    refine funext fun k => ?_
    rw [ValueIdx.eq_ix2 k]
    exact (out_at ρ H hE c (k 0) (k 1)).trans (Cert.ReferenceIdeal.Routes.result_at _ _ hE (k 0) (k 1)).symm
  · exact (θ_run Cert.ReferenceIdeal.defs _ _).mono (fun r h => h 0) (Cert.ReferenceIdeal.Value.run (F := Ideal) m' ρ')

theorem claim : Cert.Claim := ⟨Cert.Kernel.Gen.facts, Cert.KernelIdeal.Gen.facts, Cert.ReferenceIdeal.Gen.facts, Cert.Pre_experts_exist_KernelIdeal.Gen.facts, Cert.Pre_experts_exist_ReferenceIdeal.Gen.facts,
  frame_kernel, frame_ideal, frame_ideal_pre, frame_reference, frame_reference_pre, trivial, same_result⟩

end Cert.Proof

end
